-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![65536, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S7x256x256 : Shape := ⟨3, ![7, 256, 256]⟩
abbrev S3x64x256 : Shape := ⟨3, ![3, 64, 256]⟩
abbrev S7 : Shape := ⟨1, ![7]⟩
abbrev S3 : Shape := ⟨1, ![3]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩

abbrev nBuf : Space → Nat
  | .hbm => 2
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S7x256x256, .f32⟩
  | .local _ .vmem, ⟨3, _⟩ => ⟨S7x256x256, .f32⟩
  | .local _ .vmem, ⟨4, _⟩ => ⟨S3x64x256, .f32⟩
  | .local _ .vmem, ⟨5, _⟩ => ⟨S3x64x256, .f32⟩
  | .local _ .vmem, ⟨6, _⟩ => ⟨S3x64x256, .f32⟩
  | .local _ .vmem, ⟨7, _⟩ => ⟨S3x64x256, .f32⟩
  | .local _ .vmem, ⟨8, _⟩ => ⟨S7x256x256, .f32⟩
  | .local _ .vmem, ⟨9, _⟩ => ⟨S7x256x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_98 : BitVec 32 := 1#32
  let v176 : BitVec 32 := Scalar.muli v95 c1_i32_98
  let v177 : BitVec 32 := Scalar.addi c0_i32_99 v176
  v177.toNat
def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_101 : BitVec 32 := 1#32
  let v178 : BitVec 32 := Scalar.muli v108 c1_i32_101
  let v179 : BitVec 32 := Scalar.addi c0_i32_102 v178
  v179.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_104 : BitVec 32 := 1#32
  let v180 : BitVec 32 := Scalar.muli v141 c1_i32_104
  let v181 : BitVec 32 := Scalar.addi c0_i32_105 v180
  v181.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_107 : BitVec 32 := 1#32
  let v182 : BitVec 32 := Scalar.muli v174 c1_i32_107
  let v183 : BitVec 32 := Scalar.addi c0_i32_108 v182
  v183.toNat
def k0_off1 (d0 : Dev nD) (c0_i32_110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let v184 : BitVec 32 := Scalar.subi v82 c0_i32_110
  let c8_i32_111 : BitVec 32 := 8#32
  let c0_i32_112 : BitVec 32 := 0#32
  let v185 : BitVec 1 := Scalar.cmpi .eq c8_i32_111 c0_i32_112
  let c1_i32_113 : BitVec 32 := 1#32
  let v186 : BitVec 32 := Scalar.select v185 c1_i32_113 c8_i32_111
  let v187 : BitVec 32 := Scalar.remsi v184 v186
  let c0_i32_115 : BitVec 32 := 0#32
  let v189 : BitVec 1 := Scalar.cmpi .slt v187 c0_i32_115
  let c0_i32_116 : BitVec 32 := 0#32
  let v190 : BitVec 1 := Scalar.cmpi .slt v186 c0_i32_116
  let v191 : BitVec 1 := Scalar.xori v189 v190
  let c0_i32_114 : BitVec 32 := 0#32
  let v188 : BitVec 1 := Scalar.cmpi .ne v187 c0_i32_114
  let v192 : BitVec 1 := Scalar.andi v191 v188
  let v193 : BitVec 32 := Scalar.addi v187 v186
  let v194 : BitVec 32 := Scalar.select v192 v193 v187
  let c256_i32 : BitVec 32 := 256#32
  let v195 : BitVec 32 := Scalar.muli v194 c256_i32
  let c0_i32_133 : BitVec 32 := 0#32
  ![v195.toNat, 0]
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_129 : BitVec 32 := 1#32
  let v209 : BitVec 32 := Scalar.muli v141 c1_i32_129
  let v210 : BitVec 32 := Scalar.addi c0_i32_130 v209
  v210.toNat
def k0_off2 (d0 : Dev nD) (c0_i32_118 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c2_i32_117 : BitVec 32 := 2#32
  let v196 : BitVec 32 := Scalar.addi v82 c2_i32_117
  let v197 : BitVec 32 := Scalar.addi v196 c0_i32_118
  let c8_i32_119 : BitVec 32 := 8#32
  let c0_i32_120 : BitVec 32 := 0#32
  let v198 : BitVec 1 := Scalar.cmpi .eq c8_i32_119 c0_i32_120
  let c1_i32_121 : BitVec 32 := 1#32
  let v199 : BitVec 32 := Scalar.select v198 c1_i32_121 c8_i32_119
  let v200 : BitVec 32 := Scalar.remsi v197 v199
  let c0_i32_123 : BitVec 32 := 0#32
  let v202 : BitVec 1 := Scalar.cmpi .slt v200 c0_i32_123
  let c0_i32_124 : BitVec 32 := 0#32
  let v203 : BitVec 1 := Scalar.cmpi .slt v199 c0_i32_124
  let v204 : BitVec 1 := Scalar.xori v202 v203
  let c0_i32_122 : BitVec 32 := 0#32
  let v201 : BitVec 1 := Scalar.cmpi .ne v200 c0_i32_122
  let v205 : BitVec 1 := Scalar.andi v204 v201
  let v206 : BitVec 32 := Scalar.addi v200 v199
  let v207 : BitVec 32 := Scalar.select v205 v206 v200
  let c256_i32_125 : BitVec 32 := 256#32
  let v208 : BitVec 32 := Scalar.muli v207 c256_i32_125
  let c256_i32_141 : BitVec 32 := 256#32
  ![v208.toNat, 256]
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_137 : BitVec 32 := 1#32
  let v218 : BitVec 32 := Scalar.muli v174 c1_i32_137
  let v219 : BitVec 32 := Scalar.addi c0_i32_138 v218
  v219.toNat
def k0_off3 (d0 : Dev nD) (c0_i32_153 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let v237 : BitVec 32 := Scalar.subi v82 c0_i32_153
  let c1_i32_154 : BitVec 32 := 1#32
  let v238 : BitVec 32 := Scalar.subi v237 c1_i32_154
  let c8_i32_155 : BitVec 32 := 8#32
  let c0_i32_156 : BitVec 32 := 0#32
  let v239 : BitVec 1 := Scalar.cmpi .eq c8_i32_155 c0_i32_156
  let c1_i32_157 : BitVec 32 := 1#32
  let v240 : BitVec 32 := Scalar.select v239 c1_i32_157 c8_i32_155
  let v241 : BitVec 32 := Scalar.remsi v238 v240
  let c0_i32_159 : BitVec 32 := 0#32
  let v243 : BitVec 1 := Scalar.cmpi .slt v241 c0_i32_159
  let c0_i32_160 : BitVec 32 := 0#32
  let v244 : BitVec 1 := Scalar.cmpi .slt v240 c0_i32_160
  let v245 : BitVec 1 := Scalar.xori v243 v244
  let c0_i32_158 : BitVec 32 := 0#32
  let v242 : BitVec 1 := Scalar.cmpi .ne v241 c0_i32_158
  let v246 : BitVec 1 := Scalar.andi v245 v242
  let v247 : BitVec 32 := Scalar.addi v241 v240
  let v248 : BitVec 32 := Scalar.select v246 v247 v241
  let c256_i32_161 : BitVec 32 := 256#32
  let v249 : BitVec 32 := Scalar.muli v248 c256_i32_161
  let v250 : Index := Scalar.indexCast v249
  let c0_162 : Index := 0#32
  ![v250.toNat, 0]
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_178 : BitVec 32 := 1#32
  let v270 : BitVec 32 := Scalar.muli v141 c1_i32_178
  let v271 : BitVec 32 := Scalar.addi c0_i32_179 v270
  v271.toNat
def k0_off4 (d0 : Dev nD) (c3_i32 : BitVec 32) (c0_i32_191 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let v286 : BitVec 32 := Scalar.addi v82 c3_i32
  let v287 : BitVec 32 := Scalar.addi v286 c0_i32_191
  let c8_i32_192 : BitVec 32 := 8#32
  let c0_i32_193 : BitVec 32 := 0#32
  let v288 : BitVec 1 := Scalar.cmpi .eq c8_i32_192 c0_i32_193
  let c1_i32_194 : BitVec 32 := 1#32
  let v289 : BitVec 32 := Scalar.select v288 c1_i32_194 c8_i32_192
  let v290 : BitVec 32 := Scalar.remsi v287 v289
  let c0_i32_196 : BitVec 32 := 0#32
  let v292 : BitVec 1 := Scalar.cmpi .slt v290 c0_i32_196
  let c0_i32_197 : BitVec 32 := 0#32
  let v293 : BitVec 1 := Scalar.cmpi .slt v289 c0_i32_197
  let v294 : BitVec 1 := Scalar.xori v292 v293
  let c0_i32_195 : BitVec 32 := 0#32
  let v291 : BitVec 1 := Scalar.cmpi .ne v290 c0_i32_195
  let v295 : BitVec 1 := Scalar.andi v294 v291
  let v296 : BitVec 32 := Scalar.addi v290 v289
  let v297 : BitVec 32 := Scalar.select v295 v296 v290
  let c256_i32_198 : BitVec 32 := 256#32
  let v298 : BitVec 32 := Scalar.muli v297 c256_i32_198
  let v299 : Index := Scalar.indexCast v298
  let c256 : Index := 256#32
  ![v299.toNat, 256]
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_215 : BitVec 32 := 1#32
  let v320 : BitVec 32 := Scalar.muli v174 c1_i32_215
  let v321 : BitVec 32 := Scalar.addi c0_i32_216 v320
  v321.toNat
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_252 : BitVec 32 := 1#32
  let v369 : BitVec 32 := Scalar.muli v141 c1_i32_252
  let v370 : BitVec 32 := Scalar.addi c0_i32_253 v369
  v370.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_291 : BitVec 32 := 1#32
  let v419 : BitVec 32 := Scalar.muli v174 c1_i32_291
  let v420 : BitVec 32 := Scalar.addi c0_i32_292 v419
  v420.toNat
def k0_dev11 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_328 : BitVec 32 := 1#32
  let v468 : BitVec 32 := Scalar.muli v141 c1_i32_328
  let v469 : BitVec 32 := Scalar.addi c0_i32_329 v468
  v469.toNat
def k0_dev12 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_367 : BitVec 32 := 1#32
  let v518 : BitVec 32 := Scalar.muli v174 c1_i32_367
  let v519 : BitVec 32 := Scalar.addi c0_i32_368 v518
  v519.toNat
def k0_dev13 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_404 : BitVec 32 := 1#32
  let v567 : BitVec 32 := Scalar.muli v141 c1_i32_404
  let v568 : BitVec 32 := Scalar.addi c0_i32_405 v567
  v568.toNat
def k0_dev14 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_443 : BitVec 32 := 1#32
  let v617 : BitVec 32 := Scalar.muli v174 c1_i32_443
  let v618 : BitVec 32 := Scalar.addi c0_i32_444 v617
  v618.toNat
def k0_dev15 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_479 : BitVec 32 := 1#32
  let v666 : BitVec 32 := Scalar.muli v141 c1_i32_479
  let v667 : BitVec 32 := Scalar.addi c0_i32_480 v666
  v667.toNat
def k0_dev16 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_518 : BitVec 32 := 1#32
  let v716 : BitVec 32 := Scalar.muli v174 c1_i32_518
  let v717 : BitVec 32 := Scalar.addi c0_i32_519 v716
  v717.toNat
def k0_dev17 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_554 : BitVec 32 := 1#32
  let v765 : BitVec 32 := Scalar.muli v141 c1_i32_554
  let v766 : BitVec 32 := Scalar.addi c0_i32_555 v765
  v766.toNat
def k0_dev18 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_593 : BitVec 32 := 1#32
  let v815 : BitVec 32 := Scalar.muli v174 c1_i32_593
  let v816 : BitVec 32 := Scalar.addi c0_i32_594 v815
  v816.toNat
def k0_off5 (d0 : Dev nD) (c0_i32_746 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_747 : BitVec 32 := 8#32
  let c0_i32_748 : BitVec 32 := 0#32
  let v962 : BitVec 1 := Scalar.cmpi .eq c8_i32_747 c0_i32_748
  let c1_i32_749 : BitVec 32 := 1#32
  let v963 : BitVec 32 := Scalar.select v962 c1_i32_749 c8_i32_747
  let v964 : BitVec 32 := Scalar.remsi v960 v963
  let c0_i32_751 : BitVec 32 := 0#32
  let v966 : BitVec 1 := Scalar.cmpi .slt v964 c0_i32_751
  let c0_i32_752 : BitVec 32 := 0#32
  let v967 : BitVec 1 := Scalar.cmpi .slt v963 c0_i32_752
  let v968 : BitVec 1 := Scalar.xori v966 v967
  let c0_i32_750 : BitVec 32 := 0#32
  let v965 : BitVec 1 := Scalar.cmpi .ne v964 c0_i32_750
  let v969 : BitVec 1 := Scalar.andi v968 v965
  let v970 : BitVec 32 := Scalar.addi v964 v963
  let v971 : BitVec 32 := Scalar.select v969 v970 v964
  let c256_i32_753 : BitVec 32 := 256#32
  let v972 : BitVec 32 := Scalar.muli v971 c256_i32_753
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v961 : BitVec 32 := Scalar.subi v19 c0_i32_746
  let c4_i32_754 : BitVec 32 := 4#32
  let c0_i32_755 : BitVec 32 := 0#32
  let v973 : BitVec 1 := Scalar.cmpi .eq c4_i32_754 c0_i32_755
  let c1_i32_756 : BitVec 32 := 1#32
  let v974 : BitVec 32 := Scalar.select v973 c1_i32_756 c4_i32_754
  let v975 : BitVec 32 := Scalar.remsi v961 v974
  let c0_i32_758 : BitVec 32 := 0#32
  let v977 : BitVec 1 := Scalar.cmpi .slt v975 c0_i32_758
  let c0_i32_759 : BitVec 32 := 0#32
  let v978 : BitVec 1 := Scalar.cmpi .slt v974 c0_i32_759
  let v979 : BitVec 1 := Scalar.xori v977 v978
  let c0_i32_757 : BitVec 32 := 0#32
  let v976 : BitVec 1 := Scalar.cmpi .ne v975 c0_i32_757
  let v980 : BitVec 1 := Scalar.andi v979 v976
  let v981 : BitVec 32 := Scalar.addi v975 v974
  let v982 : BitVec 32 := Scalar.select v980 v981 v975
  let c64_i32 : BitVec 32 := 64#32
  let v983 : BitVec 32 := Scalar.muli v982 c64_i32
  let v984 : BitVec 32 := Scalar.addi v972 v983
  let c0_i32_783 : BitVec 32 := 0#32
  ![v984.toNat, 0]
def k0_dev19 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_779 : BitVec 32 := 1#32
  let v1010 : BitVec 32 := Scalar.muli v95 c1_i32_779
  let v1011 : BitVec 32 := Scalar.addi c0_i32_780 v1010
  v1011.toNat
def k0_off6 (d0 : Dev nD) (c0_i32_761 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_762 : BitVec 32 := 8#32
  let c0_i32_763 : BitVec 32 := 0#32
  let v987 : BitVec 1 := Scalar.cmpi .eq c8_i32_762 c0_i32_763
  let c1_i32_764 : BitVec 32 := 1#32
  let v988 : BitVec 32 := Scalar.select v987 c1_i32_764 c8_i32_762
  let v989 : BitVec 32 := Scalar.remsi v960 v988
  let c0_i32_766 : BitVec 32 := 0#32
  let v991 : BitVec 1 := Scalar.cmpi .slt v989 c0_i32_766
  let c0_i32_767 : BitVec 32 := 0#32
  let v992 : BitVec 1 := Scalar.cmpi .slt v988 c0_i32_767
  let v993 : BitVec 1 := Scalar.xori v991 v992
  let c0_i32_765 : BitVec 32 := 0#32
  let v990 : BitVec 1 := Scalar.cmpi .ne v989 c0_i32_765
  let v994 : BitVec 1 := Scalar.andi v993 v990
  let v995 : BitVec 32 := Scalar.addi v989 v988
  let v996 : BitVec 32 := Scalar.select v994 v995 v989
  let c256_i32_768 : BitVec 32 := 256#32
  let v997 : BitVec 32 := Scalar.muli v996 c256_i32_768
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_760 : BitVec 32 := 2#32
  let v985 : BitVec 32 := Scalar.subi v19 c2_i32_760
  let v986 : BitVec 32 := Scalar.addi v985 c0_i32_761
  let c4_i32_769 : BitVec 32 := 4#32
  let c0_i32_770 : BitVec 32 := 0#32
  let v998 : BitVec 1 := Scalar.cmpi .eq c4_i32_769 c0_i32_770
  let c1_i32_771 : BitVec 32 := 1#32
  let v999 : BitVec 32 := Scalar.select v998 c1_i32_771 c4_i32_769
  let v1000 : BitVec 32 := Scalar.remsi v986 v999
  let c0_i32_773 : BitVec 32 := 0#32
  let v1002 : BitVec 1 := Scalar.cmpi .slt v1000 c0_i32_773
  let c0_i32_774 : BitVec 32 := 0#32
  let v1003 : BitVec 1 := Scalar.cmpi .slt v999 c0_i32_774
  let v1004 : BitVec 1 := Scalar.xori v1002 v1003
  let c0_i32_772 : BitVec 32 := 0#32
  let v1001 : BitVec 1 := Scalar.cmpi .ne v1000 c0_i32_772
  let v1005 : BitVec 1 := Scalar.andi v1004 v1001
  let v1006 : BitVec 32 := Scalar.addi v1000 v999
  let v1007 : BitVec 32 := Scalar.select v1005 v1006 v1000
  let c64_i32_775 : BitVec 32 := 64#32
  let v1008 : BitVec 32 := Scalar.muli v1007 c64_i32_775
  let v1009 : BitVec 32 := Scalar.addi v997 v1008
  let c256_i32_791 : BitVec 32 := 256#32
  ![v1009.toNat, 256]
def k0_dev20 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_787 : BitVec 32 := 1#32
  let v1019 : BitVec 32 := Scalar.muli v108 c1_i32_787
  let v1020 : BitVec 32 := Scalar.addi c0_i32_788 v1019
  v1020.toNat
def k0_off7 (d0 : Dev nD) (c0_i32_800 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_802 : BitVec 32 := 8#32
  let c0_i32_803 : BitVec 32 := 0#32
  let v1037 : BitVec 1 := Scalar.cmpi .eq c8_i32_802 c0_i32_803
  let c1_i32_804 : BitVec 32 := 1#32
  let v1038 : BitVec 32 := Scalar.select v1037 c1_i32_804 c8_i32_802
  let v1039 : BitVec 32 := Scalar.remsi v960 v1038
  let c0_i32_806 : BitVec 32 := 0#32
  let v1041 : BitVec 1 := Scalar.cmpi .slt v1039 c0_i32_806
  let c0_i32_807 : BitVec 32 := 0#32
  let v1042 : BitVec 1 := Scalar.cmpi .slt v1038 c0_i32_807
  let v1043 : BitVec 1 := Scalar.xori v1041 v1042
  let c0_i32_805 : BitVec 32 := 0#32
  let v1040 : BitVec 1 := Scalar.cmpi .ne v1039 c0_i32_805
  let v1044 : BitVec 1 := Scalar.andi v1043 v1040
  let v1045 : BitVec 32 := Scalar.addi v1039 v1038
  let v1046 : BitVec 32 := Scalar.select v1044 v1045 v1039
  let c256_i32_808 : BitVec 32 := 256#32
  let v1047 : BitVec 32 := Scalar.muli v1046 c256_i32_808
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1035 : BitVec 32 := Scalar.subi v19 c0_i32_800
  let c1_i32_801 : BitVec 32 := 1#32
  let v1036 : BitVec 32 := Scalar.subi v1035 c1_i32_801
  let c4_i32_809 : BitVec 32 := 4#32
  let c0_i32_810 : BitVec 32 := 0#32
  let v1048 : BitVec 1 := Scalar.cmpi .eq c4_i32_809 c0_i32_810
  let c1_i32_811 : BitVec 32 := 1#32
  let v1049 : BitVec 32 := Scalar.select v1048 c1_i32_811 c4_i32_809
  let v1050 : BitVec 32 := Scalar.remsi v1036 v1049
  let c0_i32_813 : BitVec 32 := 0#32
  let v1052 : BitVec 1 := Scalar.cmpi .slt v1050 c0_i32_813
  let c0_i32_814 : BitVec 32 := 0#32
  let v1053 : BitVec 1 := Scalar.cmpi .slt v1049 c0_i32_814
  let v1054 : BitVec 1 := Scalar.xori v1052 v1053
  let c0_i32_812 : BitVec 32 := 0#32
  let v1051 : BitVec 1 := Scalar.cmpi .ne v1050 c0_i32_812
  let v1055 : BitVec 1 := Scalar.andi v1054 v1051
  let v1056 : BitVec 32 := Scalar.addi v1050 v1049
  let v1057 : BitVec 32 := Scalar.select v1055 v1056 v1050
  let c64_i32_815 : BitVec 32 := 64#32
  let v1058 : BitVec 32 := Scalar.muli v1057 c64_i32_815
  let v1059 : BitVec 32 := Scalar.addi v1047 v1058
  let v1060 : Index := Scalar.indexCast v1059
  let c0_816 : Index := 0#32
  ![v1060.toNat, 0]
def k0_dev21 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_839 : BitVec 32 := 1#32
  let v1092 : BitVec 32 := Scalar.muli v95 c1_i32_839
  let v1093 : BitVec 32 := Scalar.addi c0_i32_840 v1092
  v1093.toNat
def k0_off8 (d0 : Dev nD) (c0_i32_853 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_854 : BitVec 32 := 8#32
  let c0_i32_855 : BitVec 32 := 0#32
  let v1110 : BitVec 1 := Scalar.cmpi .eq c8_i32_854 c0_i32_855
  let c1_i32_856 : BitVec 32 := 1#32
  let v1111 : BitVec 32 := Scalar.select v1110 c1_i32_856 c8_i32_854
  let v1112 : BitVec 32 := Scalar.remsi v960 v1111
  let c0_i32_858 : BitVec 32 := 0#32
  let v1114 : BitVec 1 := Scalar.cmpi .slt v1112 c0_i32_858
  let c0_i32_859 : BitVec 32 := 0#32
  let v1115 : BitVec 1 := Scalar.cmpi .slt v1111 c0_i32_859
  let v1116 : BitVec 1 := Scalar.xori v1114 v1115
  let c0_i32_857 : BitVec 32 := 0#32
  let v1113 : BitVec 1 := Scalar.cmpi .ne v1112 c0_i32_857
  let v1117 : BitVec 1 := Scalar.andi v1116 v1113
  let v1118 : BitVec 32 := Scalar.addi v1112 v1111
  let v1119 : BitVec 32 := Scalar.select v1117 v1118 v1112
  let c256_i32_860 : BitVec 32 := 256#32
  let v1120 : BitVec 32 := Scalar.muli v1119 c256_i32_860
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_852 : BitVec 32 := 1#32
  let v1108 : BitVec 32 := Scalar.subi v19 c1_i32_852
  let v1109 : BitVec 32 := Scalar.addi v1108 c0_i32_853
  let c4_i32_861 : BitVec 32 := 4#32
  let c0_i32_862 : BitVec 32 := 0#32
  let v1121 : BitVec 1 := Scalar.cmpi .eq c4_i32_861 c0_i32_862
  let c1_i32_863 : BitVec 32 := 1#32
  let v1122 : BitVec 32 := Scalar.select v1121 c1_i32_863 c4_i32_861
  let v1123 : BitVec 32 := Scalar.remsi v1109 v1122
  let c0_i32_865 : BitVec 32 := 0#32
  let v1125 : BitVec 1 := Scalar.cmpi .slt v1123 c0_i32_865
  let c0_i32_866 : BitVec 32 := 0#32
  let v1126 : BitVec 1 := Scalar.cmpi .slt v1122 c0_i32_866
  let v1127 : BitVec 1 := Scalar.xori v1125 v1126
  let c0_i32_864 : BitVec 32 := 0#32
  let v1124 : BitVec 1 := Scalar.cmpi .ne v1123 c0_i32_864
  let v1128 : BitVec 1 := Scalar.andi v1127 v1124
  let v1129 : BitVec 32 := Scalar.addi v1123 v1122
  let v1130 : BitVec 32 := Scalar.select v1128 v1129 v1123
  let c64_i32_867 : BitVec 32 := 64#32
  let v1131 : BitVec 32 := Scalar.muli v1130 c64_i32_867
  let v1132 : BitVec 32 := Scalar.addi v1120 v1131
  let v1133 : Index := Scalar.indexCast v1132
  let c256_868 : Index := 256#32
  ![v1133.toNat, 256]
def k0_dev22 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_892 : BitVec 32 := 1#32
  let v1166 : BitVec 32 := Scalar.muli v108 c1_i32_892
  let v1167 : BitVec 32 := Scalar.addi c0_i32_893 v1166
  v1167.toNat
def k0_dev23 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_944 : BitVec 32 := 1#32
  let v1239 : BitVec 32 := Scalar.muli v95 c1_i32_944
  let v1240 : BitVec 32 := Scalar.addi c0_i32_945 v1239
  v1240.toNat
def k0_dev24 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_997 : BitVec 32 := 1#32
  let v1313 : BitVec 32 := Scalar.muli v108 c1_i32_997
  let v1314 : BitVec 32 := Scalar.addi c0_i32_998 v1313
  v1314.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1109 : BitVec 32 := 8#32
  let c0_i32_1110 : BitVec 32 := 0#32
  let v1443 : BitVec 1 := Scalar.cmpi .eq c8_i32_1109 c0_i32_1110
  let c1_i32_1111 : BitVec 32 := 1#32
  let v1444 : BitVec 32 := Scalar.select v1443 c1_i32_1111 c8_i32_1109
  let v1445 : BitVec 32 := Scalar.remsi v960 v1444
  let c0_i32_1113 : BitVec 32 := 0#32
  let v1447 : BitVec 1 := Scalar.cmpi .slt v1445 c0_i32_1113
  let c0_i32_1114 : BitVec 32 := 0#32
  let v1448 : BitVec 1 := Scalar.cmpi .slt v1444 c0_i32_1114
  let v1449 : BitVec 1 := Scalar.xori v1447 v1448
  let c0_i32_1112 : BitVec 32 := 0#32
  let v1446 : BitVec 1 := Scalar.cmpi .ne v1445 c0_i32_1112
  let v1450 : BitVec 1 := Scalar.andi v1449 v1446
  let v1451 : BitVec 32 := Scalar.addi v1445 v1444
  let v1452 : BitVec 32 := Scalar.select v1450 v1451 v1445
  let c256_i32_1115 : BitVec 32 := 256#32
  let v1453 : BitVec 32 := Scalar.muli v1452 c256_i32_1115
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1102 : BitVec 32 := 1#32
  let v1432 : BitVec 32 := Scalar.addi v19 c1_i32_1102
  let c4_i32_1103 : BitVec 32 := 4#32
  let c0_i32_1104 : BitVec 32 := 0#32
  let v1433 : BitVec 1 := Scalar.cmpi .eq c4_i32_1103 c0_i32_1104
  let c1_i32_1105 : BitVec 32 := 1#32
  let v1434 : BitVec 32 := Scalar.select v1433 c1_i32_1105 c4_i32_1103
  let v1435 : BitVec 32 := Scalar.remsi v1432 v1434
  let c0_i32_1107 : BitVec 32 := 0#32
  let v1437 : BitVec 1 := Scalar.cmpi .slt v1435 c0_i32_1107
  let c0_i32_1108 : BitVec 32 := 0#32
  let v1438 : BitVec 1 := Scalar.cmpi .slt v1434 c0_i32_1108
  let v1439 : BitVec 1 := Scalar.xori v1437 v1438
  let c0_i32_1106 : BitVec 32 := 0#32
  let v1436 : BitVec 1 := Scalar.cmpi .ne v1435 c0_i32_1106
  let v1440 : BitVec 1 := Scalar.andi v1439 v1436
  let v1441 : BitVec 32 := Scalar.addi v1435 v1434
  let v1442 : BitVec 32 := Scalar.select v1440 v1441 v1435
  let c4_i32_1116 : BitVec 32 := 4#32
  let c0_i32_1117 : BitVec 32 := 0#32
  let v1454 : BitVec 1 := Scalar.cmpi .eq c4_i32_1116 c0_i32_1117
  let c1_i32_1118 : BitVec 32 := 1#32
  let v1455 : BitVec 32 := Scalar.select v1454 c1_i32_1118 c4_i32_1116
  let v1456 : BitVec 32 := Scalar.remsi v1442 v1455
  let c0_i32_1120 : BitVec 32 := 0#32
  let v1458 : BitVec 1 := Scalar.cmpi .slt v1456 c0_i32_1120
  let c0_i32_1121 : BitVec 32 := 0#32
  let v1459 : BitVec 1 := Scalar.cmpi .slt v1455 c0_i32_1121
  let v1460 : BitVec 1 := Scalar.xori v1458 v1459
  let c0_i32_1119 : BitVec 32 := 0#32
  let v1457 : BitVec 1 := Scalar.cmpi .ne v1456 c0_i32_1119
  let v1461 : BitVec 1 := Scalar.andi v1460 v1457
  let v1462 : BitVec 32 := Scalar.addi v1456 v1455
  let v1463 : BitVec 32 := Scalar.select v1461 v1462 v1456
  let c64_i32_1122 : BitVec 32 := 64#32
  let v1464 : BitVec 32 := Scalar.muli v1463 c64_i32_1122
  let v1465 : BitVec 32 := Scalar.addi v1453 v1464
  let c0_i32_1144 : BitVec 32 := 0#32
  ![v1465.toNat, 0]
def k0_dev25 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_1140 : BitVec 32 := 1#32
  let v1489 : BitVec 32 := Scalar.muli v95 c1_i32_1140
  let v1490 : BitVec 32 := Scalar.addi c0_i32_1141 v1489
  v1490.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1123 : BitVec 32 := 8#32
  let c0_i32_1124 : BitVec 32 := 0#32
  let v1466 : BitVec 1 := Scalar.cmpi .eq c8_i32_1123 c0_i32_1124
  let c1_i32_1125 : BitVec 32 := 1#32
  let v1467 : BitVec 32 := Scalar.select v1466 c1_i32_1125 c8_i32_1123
  let v1468 : BitVec 32 := Scalar.remsi v960 v1467
  let c0_i32_1127 : BitVec 32 := 0#32
  let v1470 : BitVec 1 := Scalar.cmpi .slt v1468 c0_i32_1127
  let c0_i32_1128 : BitVec 32 := 0#32
  let v1471 : BitVec 1 := Scalar.cmpi .slt v1467 c0_i32_1128
  let v1472 : BitVec 1 := Scalar.xori v1470 v1471
  let c0_i32_1126 : BitVec 32 := 0#32
  let v1469 : BitVec 1 := Scalar.cmpi .ne v1468 c0_i32_1126
  let v1473 : BitVec 1 := Scalar.andi v1472 v1469
  let v1474 : BitVec 32 := Scalar.addi v1468 v1467
  let v1475 : BitVec 32 := Scalar.select v1473 v1474 v1468
  let c256_i32_1129 : BitVec 32 := 256#32
  let v1476 : BitVec 32 := Scalar.muli v1475 c256_i32_1129
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1102 : BitVec 32 := 1#32
  let v1432 : BitVec 32 := Scalar.addi v19 c1_i32_1102
  let c4_i32_1103 : BitVec 32 := 4#32
  let c0_i32_1104 : BitVec 32 := 0#32
  let v1433 : BitVec 1 := Scalar.cmpi .eq c4_i32_1103 c0_i32_1104
  let c1_i32_1105 : BitVec 32 := 1#32
  let v1434 : BitVec 32 := Scalar.select v1433 c1_i32_1105 c4_i32_1103
  let v1435 : BitVec 32 := Scalar.remsi v1432 v1434
  let c0_i32_1107 : BitVec 32 := 0#32
  let v1437 : BitVec 1 := Scalar.cmpi .slt v1435 c0_i32_1107
  let c0_i32_1108 : BitVec 32 := 0#32
  let v1438 : BitVec 1 := Scalar.cmpi .slt v1434 c0_i32_1108
  let v1439 : BitVec 1 := Scalar.xori v1437 v1438
  let c0_i32_1106 : BitVec 32 := 0#32
  let v1436 : BitVec 1 := Scalar.cmpi .ne v1435 c0_i32_1106
  let v1440 : BitVec 1 := Scalar.andi v1439 v1436
  let v1441 : BitVec 32 := Scalar.addi v1435 v1434
  let v1442 : BitVec 32 := Scalar.select v1440 v1441 v1435
  let c4_i32_1130 : BitVec 32 := 4#32
  let c0_i32_1131 : BitVec 32 := 0#32
  let v1477 : BitVec 1 := Scalar.cmpi .eq c4_i32_1130 c0_i32_1131
  let c1_i32_1132 : BitVec 32 := 1#32
  let v1478 : BitVec 32 := Scalar.select v1477 c1_i32_1132 c4_i32_1130
  let v1479 : BitVec 32 := Scalar.remsi v1442 v1478
  let c0_i32_1134 : BitVec 32 := 0#32
  let v1481 : BitVec 1 := Scalar.cmpi .slt v1479 c0_i32_1134
  let c0_i32_1135 : BitVec 32 := 0#32
  let v1482 : BitVec 1 := Scalar.cmpi .slt v1478 c0_i32_1135
  let v1483 : BitVec 1 := Scalar.xori v1481 v1482
  let c0_i32_1133 : BitVec 32 := 0#32
  let v1480 : BitVec 1 := Scalar.cmpi .ne v1479 c0_i32_1133
  let v1484 : BitVec 1 := Scalar.andi v1483 v1480
  let v1485 : BitVec 32 := Scalar.addi v1479 v1478
  let v1486 : BitVec 32 := Scalar.select v1484 v1485 v1479
  let c64_i32_1136 : BitVec 32 := 64#32
  let v1487 : BitVec 32 := Scalar.muli v1486 c64_i32_1136
  let v1488 : BitVec 32 := Scalar.addi v1476 v1487
  let c256_i32_1152 : BitVec 32 := 256#32
  ![v1488.toNat, 256]
def k0_dev26 (d0 : Dev nD) : Nat :=
  let c0_i32_1149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_1148 : BitVec 32 := 1#32
  let v1498 : BitVec 32 := Scalar.muli v108 c1_i32_1148
  let v1499 : BitVec 32 := Scalar.addi c0_i32_1149 v1498
  v1499.toNat
def k0_dev27 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_1165 : BitVec 32 := 1#32
  let v1514 : BitVec 32 := Scalar.muli v95 c1_i32_1165
  let v1515 : BitVec 32 := Scalar.addi c0_i32_1166 v1514
  v1515.toNat
def k0_dev28 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_1183 : BitVec 32 := 1#32
  let v1531 : BitVec 32 := Scalar.muli v108 c1_i32_1183
  let v1532 : BitVec 32 := Scalar.addi c0_i32_1184 v1531
  v1532.toNat
def k0_off11 (d0 : Dev nD) (c0_i32_1192 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1193 : BitVec 32 := 8#32
  let c0_i32_1194 : BitVec 32 := 0#32
  let v1544 : BitVec 1 := Scalar.cmpi .eq c8_i32_1193 c0_i32_1194
  let c1_i32_1195 : BitVec 32 := 1#32
  let v1545 : BitVec 32 := Scalar.select v1544 c1_i32_1195 c8_i32_1193
  let v1546 : BitVec 32 := Scalar.remsi v960 v1545
  let c0_i32_1197 : BitVec 32 := 0#32
  let v1548 : BitVec 1 := Scalar.cmpi .slt v1546 c0_i32_1197
  let c0_i32_1198 : BitVec 32 := 0#32
  let v1549 : BitVec 1 := Scalar.cmpi .slt v1545 c0_i32_1198
  let v1550 : BitVec 1 := Scalar.xori v1548 v1549
  let c0_i32_1196 : BitVec 32 := 0#32
  let v1547 : BitVec 1 := Scalar.cmpi .ne v1546 c0_i32_1196
  let v1551 : BitVec 1 := Scalar.andi v1550 v1547
  let v1552 : BitVec 32 := Scalar.addi v1546 v1545
  let v1553 : BitVec 32 := Scalar.select v1551 v1552 v1546
  let c256_i32_1199 : BitVec 32 := 256#32
  let v1554 : BitVec 32 := Scalar.muli v1553 c256_i32_1199
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1543 : BitVec 32 := Scalar.subi v19 c0_i32_1192
  let c4_i32_1200 : BitVec 32 := 4#32
  let c0_i32_1201 : BitVec 32 := 0#32
  let v1555 : BitVec 1 := Scalar.cmpi .eq c4_i32_1200 c0_i32_1201
  let c1_i32_1202 : BitVec 32 := 1#32
  let v1556 : BitVec 32 := Scalar.select v1555 c1_i32_1202 c4_i32_1200
  let v1557 : BitVec 32 := Scalar.remsi v1543 v1556
  let c0_i32_1204 : BitVec 32 := 0#32
  let v1559 : BitVec 1 := Scalar.cmpi .slt v1557 c0_i32_1204
  let c0_i32_1205 : BitVec 32 := 0#32
  let v1560 : BitVec 1 := Scalar.cmpi .slt v1556 c0_i32_1205
  let v1561 : BitVec 1 := Scalar.xori v1559 v1560
  let c0_i32_1203 : BitVec 32 := 0#32
  let v1558 : BitVec 1 := Scalar.cmpi .ne v1557 c0_i32_1203
  let v1562 : BitVec 1 := Scalar.andi v1561 v1558
  let v1563 : BitVec 32 := Scalar.addi v1557 v1556
  let v1564 : BitVec 32 := Scalar.select v1562 v1563 v1557
  let c64_i32_1206 : BitVec 32 := 64#32
  let v1565 : BitVec 32 := Scalar.muli v1564 c64_i32_1206
  let v1566 : BitVec 32 := Scalar.addi v1554 v1565
  let v1567 : Index := Scalar.indexCast v1566
  let c0_1207 : Index := 0#32
  ![v1567.toNat, 0]
def k0_off12 (d0 : Dev nD) (c0_i32_1212 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1213 : BitVec 32 := 8#32
  let c0_i32_1214 : BitVec 32 := 0#32
  let v1573 : BitVec 1 := Scalar.cmpi .eq c8_i32_1213 c0_i32_1214
  let c1_i32_1215 : BitVec 32 := 1#32
  let v1574 : BitVec 32 := Scalar.select v1573 c1_i32_1215 c8_i32_1213
  let v1575 : BitVec 32 := Scalar.remsi v960 v1574
  let c0_i32_1217 : BitVec 32 := 0#32
  let v1577 : BitVec 1 := Scalar.cmpi .slt v1575 c0_i32_1217
  let c0_i32_1218 : BitVec 32 := 0#32
  let v1578 : BitVec 1 := Scalar.cmpi .slt v1574 c0_i32_1218
  let v1579 : BitVec 1 := Scalar.xori v1577 v1578
  let c0_i32_1216 : BitVec 32 := 0#32
  let v1576 : BitVec 1 := Scalar.cmpi .ne v1575 c0_i32_1216
  let v1580 : BitVec 1 := Scalar.andi v1579 v1576
  let v1581 : BitVec 32 := Scalar.addi v1575 v1574
  let v1582 : BitVec 32 := Scalar.select v1580 v1581 v1575
  let c256_i32_1219 : BitVec 32 := 256#32
  let v1583 : BitVec 32 := Scalar.muli v1582 c256_i32_1219
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1211 : BitVec 32 := 2#32
  let v1571 : BitVec 32 := Scalar.addi v19 c2_i32_1211
  let v1572 : BitVec 32 := Scalar.addi v1571 c0_i32_1212
  let c4_i32_1220 : BitVec 32 := 4#32
  let c0_i32_1221 : BitVec 32 := 0#32
  let v1584 : BitVec 1 := Scalar.cmpi .eq c4_i32_1220 c0_i32_1221
  let c1_i32_1222 : BitVec 32 := 1#32
  let v1585 : BitVec 32 := Scalar.select v1584 c1_i32_1222 c4_i32_1220
  let v1586 : BitVec 32 := Scalar.remsi v1572 v1585
  let c0_i32_1224 : BitVec 32 := 0#32
  let v1588 : BitVec 1 := Scalar.cmpi .slt v1586 c0_i32_1224
  let c0_i32_1225 : BitVec 32 := 0#32
  let v1589 : BitVec 1 := Scalar.cmpi .slt v1585 c0_i32_1225
  let v1590 : BitVec 1 := Scalar.xori v1588 v1589
  let c0_i32_1223 : BitVec 32 := 0#32
  let v1587 : BitVec 1 := Scalar.cmpi .ne v1586 c0_i32_1223
  let v1591 : BitVec 1 := Scalar.andi v1590 v1587
  let v1592 : BitVec 32 := Scalar.addi v1586 v1585
  let v1593 : BitVec 32 := Scalar.select v1591 v1592 v1586
  let c64_i32_1226 : BitVec 32 := 64#32
  let v1594 : BitVec 32 := Scalar.muli v1593 c64_i32_1226
  let v1595 : BitVec 32 := Scalar.addi v1583 v1594
  let v1596 : Index := Scalar.indexCast v1595
  let c256_1227 : Index := 256#32
  ![v1596.toNat, 256]
def k0_dev29 (d0 : Dev nD) : Nat :=
  let c0_i32_1243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_38 : BitVec 32 := 1#32
  let v83 : BitVec 32 := Scalar.addi v19 c1_i32_38
  let c4_i32 : BitVec 32 := 4#32
  let c0_i32_39 : BitVec 32 := 0#32
  let v84 : BitVec 1 := Scalar.cmpi .eq c4_i32 c0_i32_39
  let c1_i32_40 : BitVec 32 := 1#32
  let v85 : BitVec 32 := Scalar.select v84 c1_i32_40 c4_i32
  let v86 : BitVec 32 := Scalar.remsi v83 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c8_i32_44 : BitVec 32 := 8#32
  let v94 : BitVec 32 := Scalar.muli v93 c8_i32_44
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v95 : BitVec 32 := Scalar.addi v94 v29
  let c1_i32_1242 : BitVec 32 := 1#32
  let v1606 : BitVec 32 := Scalar.muli v95 c1_i32_1242
  let v1607 : BitVec 32 := Scalar.addi c0_i32_1243 v1606
  v1607.toNat
def k0_dev30 (d0 : Dev nD) : Nat :=
  let c0_i32_1263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_45 : BitVec 32 := 1#32
  let v96 : BitVec 32 := Scalar.subi v19 c1_i32_45
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi v96 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c8_i32_52 : BitVec 32 := 8#32
  let v107 : BitVec 32 := Scalar.muli v106 c8_i32_52
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v108 : BitVec 32 := Scalar.addi v107 v29
  let c1_i32_1262 : BitVec 32 := 1#32
  let v1624 : BitVec 32 := Scalar.muli v108 c1_i32_1262
  let v1625 : BitVec 32 := Scalar.addi c0_i32_1263 v1624
  v1625.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1416 : BitVec 32 := 8#32
  let c0_i32_1417 : BitVec 32 := 0#32
  let v1798 : BitVec 1 := Scalar.cmpi .eq c8_i32_1416 c0_i32_1417
  let c1_i32_1418 : BitVec 32 := 1#32
  let v1799 : BitVec 32 := Scalar.select v1798 c1_i32_1418 c8_i32_1416
  let v1800 : BitVec 32 := Scalar.remsi v960 v1799
  let c0_i32_1420 : BitVec 32 := 0#32
  let v1802 : BitVec 1 := Scalar.cmpi .slt v1800 c0_i32_1420
  let c0_i32_1421 : BitVec 32 := 0#32
  let v1803 : BitVec 1 := Scalar.cmpi .slt v1799 c0_i32_1421
  let v1804 : BitVec 1 := Scalar.xori v1802 v1803
  let c0_i32_1419 : BitVec 32 := 0#32
  let v1801 : BitVec 1 := Scalar.cmpi .ne v1800 c0_i32_1419
  let v1805 : BitVec 1 := Scalar.andi v1804 v1801
  let v1806 : BitVec 32 := Scalar.addi v1800 v1799
  let v1807 : BitVec 32 := Scalar.select v1805 v1806 v1800
  let c256_i32_1422 : BitVec 32 := 256#32
  let v1808 : BitVec 32 := Scalar.muli v1807 c256_i32_1422
  let c0_i32_1437 : BitVec 32 := 0#32
  ![v1808.toNat, 0]
def k0_dev31 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1433 : BitVec 32 := 1#32
  let v1820 : BitVec 32 := Scalar.muli v141 c1_i32_1433
  let v1821 : BitVec 32 := Scalar.addi c0_i32_1434 v1820
  v1821.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_739 : BitVec 32 := 1#32
  let v950 : BitVec 32 := Scalar.addi v82 c1_i32_739
  let c8_i32_740 : BitVec 32 := 8#32
  let c0_i32_741 : BitVec 32 := 0#32
  let v951 : BitVec 1 := Scalar.cmpi .eq c8_i32_740 c0_i32_741
  let c1_i32_742 : BitVec 32 := 1#32
  let v952 : BitVec 32 := Scalar.select v951 c1_i32_742 c8_i32_740
  let v953 : BitVec 32 := Scalar.remsi v950 v952
  let c0_i32_744 : BitVec 32 := 0#32
  let v955 : BitVec 1 := Scalar.cmpi .slt v953 c0_i32_744
  let c0_i32_745 : BitVec 32 := 0#32
  let v956 : BitVec 1 := Scalar.cmpi .slt v952 c0_i32_745
  let v957 : BitVec 1 := Scalar.xori v955 v956
  let c0_i32_743 : BitVec 32 := 0#32
  let v954 : BitVec 1 := Scalar.cmpi .ne v953 c0_i32_743
  let v958 : BitVec 1 := Scalar.andi v957 v954
  let v959 : BitVec 32 := Scalar.addi v953 v952
  let v960 : BitVec 32 := Scalar.select v958 v959 v953
  let c8_i32_1423 : BitVec 32 := 8#32
  let c0_i32_1424 : BitVec 32 := 0#32
  let v1809 : BitVec 1 := Scalar.cmpi .eq c8_i32_1423 c0_i32_1424
  let c1_i32_1425 : BitVec 32 := 1#32
  let v1810 : BitVec 32 := Scalar.select v1809 c1_i32_1425 c8_i32_1423
  let v1811 : BitVec 32 := Scalar.remsi v960 v1810
  let c0_i32_1427 : BitVec 32 := 0#32
  let v1813 : BitVec 1 := Scalar.cmpi .slt v1811 c0_i32_1427
  let c0_i32_1428 : BitVec 32 := 0#32
  let v1814 : BitVec 1 := Scalar.cmpi .slt v1810 c0_i32_1428
  let v1815 : BitVec 1 := Scalar.xori v1813 v1814
  let c0_i32_1426 : BitVec 32 := 0#32
  let v1812 : BitVec 1 := Scalar.cmpi .ne v1811 c0_i32_1426
  let v1816 : BitVec 1 := Scalar.andi v1815 v1812
  let v1817 : BitVec 32 := Scalar.addi v1811 v1810
  let v1818 : BitVec 32 := Scalar.select v1816 v1817 v1811
  let c256_i32_1429 : BitVec 32 := 256#32
  let v1819 : BitVec 32 := Scalar.muli v1818 c256_i32_1429
  let c256_i32_1445 : BitVec 32 := 256#32
  ![v1819.toNat, 256]
def k0_dev32 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1441 : BitVec 32 := 1#32
  let v1829 : BitVec 32 := Scalar.muli v174 c1_i32_1441
  let v1830 : BitVec 32 := Scalar.addi c0_i32_1442 v1829
  v1830.toNat
def k0_dev33 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1458 : BitVec 32 := 1#32
  let v1845 : BitVec 32 := Scalar.muli v141 c1_i32_1458
  let v1846 : BitVec 32 := Scalar.addi c0_i32_1459 v1845
  v1846.toNat
def k0_dev34 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1476 : BitVec 32 := 1#32
  let v1862 : BitVec 32 := Scalar.muli v174 c1_i32_1476
  let v1863 : BitVec 32 := Scalar.addi c0_i32_1477 v1862
  v1863.toNat
def k0_off15 (d0 : Dev nD) (c0_i32_1485 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let v1874 : BitVec 32 := Scalar.subi v82 c0_i32_1485
  let c8_i32_1486 : BitVec 32 := 8#32
  let c0_i32_1487 : BitVec 32 := 0#32
  let v1875 : BitVec 1 := Scalar.cmpi .eq c8_i32_1486 c0_i32_1487
  let c1_i32_1488 : BitVec 32 := 1#32
  let v1876 : BitVec 32 := Scalar.select v1875 c1_i32_1488 c8_i32_1486
  let v1877 : BitVec 32 := Scalar.remsi v1874 v1876
  let c0_i32_1490 : BitVec 32 := 0#32
  let v1879 : BitVec 1 := Scalar.cmpi .slt v1877 c0_i32_1490
  let c0_i32_1491 : BitVec 32 := 0#32
  let v1880 : BitVec 1 := Scalar.cmpi .slt v1876 c0_i32_1491
  let v1881 : BitVec 1 := Scalar.xori v1879 v1880
  let c0_i32_1489 : BitVec 32 := 0#32
  let v1878 : BitVec 1 := Scalar.cmpi .ne v1877 c0_i32_1489
  let v1882 : BitVec 1 := Scalar.andi v1881 v1878
  let v1883 : BitVec 32 := Scalar.addi v1877 v1876
  let v1884 : BitVec 32 := Scalar.select v1882 v1883 v1877
  let c256_i32_1492 : BitVec 32 := 256#32
  let v1885 : BitVec 32 := Scalar.muli v1884 c256_i32_1492
  let v1886 : Index := Scalar.indexCast v1885
  let c0_1493 : Index := 0#32
  ![v1886.toNat, 0]
def k0_dev35 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1521 : BitVec 32 := 1#32
  let v1913 : BitVec 32 := Scalar.muli v141 c1_i32_1521
  let v1914 : BitVec 32 := Scalar.addi c0_i32_1522 v1913
  v1914.toNat
def k0_dev36 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1541 : BitVec 32 := 1#32
  let v1931 : BitVec 32 := Scalar.muli v174 c1_i32_1541
  let v1932 : BitVec 32 := Scalar.addi c0_i32_1542 v1931
  v1932.toNat
def k0_dev37 (d0 : Dev nD) : Nat :=
  let c0_i32_1587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1586 : BitVec 32 := 1#32
  let v1982 : BitVec 32 := Scalar.muli v141 c1_i32_1586
  let v1983 : BitVec 32 := Scalar.addi c0_i32_1587 v1982
  v1983.toNat
def k0_dev38 (d0 : Dev nD) : Nat :=
  let c0_i32_1607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1606 : BitVec 32 := 1#32
  let v2000 : BitVec 32 := Scalar.muli v174 c1_i32_1606
  let v2001 : BitVec 32 := Scalar.addi c0_i32_1607 v2000
  v2001.toNat
def k0_dev39 (d0 : Dev nD) : Nat :=
  let c0_i32_1652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1651 : BitVec 32 := 1#32
  let v2051 : BitVec 32 := Scalar.muli v141 c1_i32_1651
  let v2052 : BitVec 32 := Scalar.addi c0_i32_1652 v2051
  v2052.toNat
def k0_dev40 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1671 : BitVec 32 := 1#32
  let v2069 : BitVec 32 := Scalar.muli v174 c1_i32_1671
  let v2070 : BitVec 32 := Scalar.addi c0_i32_1672 v2069
  v2070.toNat
def k0_dev41 (d0 : Dev nD) : Nat :=
  let c0_i32_1717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1716 : BitVec 32 := 1#32
  let v2120 : BitVec 32 := Scalar.muli v141 c1_i32_1716
  let v2121 : BitVec 32 := Scalar.addi c0_i32_1717 v2120
  v2121.toNat
def k0_dev42 (d0 : Dev nD) : Nat :=
  let c0_i32_1737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1736 : BitVec 32 := 1#32
  let v2138 : BitVec 32 := Scalar.muli v174 c1_i32_1736
  let v2139 : BitVec 32 := Scalar.addi c0_i32_1737 v2138
  v2139.toNat
def k0_dev43 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_54 : BitVec 32 := 1#32
  let v110 : BitVec 32 := Scalar.addi v82 c1_i32_54
  let c8_i32_55 : BitVec 32 := 8#32
  let c0_i32_56 : BitVec 32 := 0#32
  let v111 : BitVec 1 := Scalar.cmpi .eq c8_i32_55 c0_i32_56
  let c1_i32_57 : BitVec 32 := 1#32
  let v112 : BitVec 32 := Scalar.select v111 c1_i32_57 c8_i32_55
  let v113 : BitVec 32 := Scalar.remsi v110 v112
  let c0_i32_59 : BitVec 32 := 0#32
  let v115 : BitVec 1 := Scalar.cmpi .slt v113 c0_i32_59
  let c0_i32_60 : BitVec 32 := 0#32
  let v116 : BitVec 1 := Scalar.cmpi .slt v112 c0_i32_60
  let v117 : BitVec 1 := Scalar.xori v115 v116
  let c0_i32_58 : BitVec 32 := 0#32
  let v114 : BitVec 1 := Scalar.cmpi .ne v113 c0_i32_58
  let v118 : BitVec 1 := Scalar.andi v117 v114
  let v119 : BitVec 32 := Scalar.addi v113 v112
  let v120 : BitVec 32 := Scalar.select v118 v119 v113
  let c4_i32_61 : BitVec 32 := 4#32
  let v121 : BitVec 1 := Scalar.cmpi .slt v120 c4_i32_61
  let c7_i32_62 : BitVec 32 := 7#32
  let v122 : BitVec 32 := Scalar.subi c7_i32_62 v120
  let v123 : BitVec 32 := Scalar.select v121 v120 v122
  let v126 : BitVec 32 := Scalar.muli c2_i32_66 v123
  let c2_i32_67 : BitVec 32 := 2#32
  let c0_i32_68 : BitVec 32 := 0#32
  let v127 : BitVec 1 := Scalar.cmpi .eq c2_i32_67 c0_i32_68
  let c1_i32_69 : BitVec 32 := 1#32
  let v128 : BitVec 32 := Scalar.select v127 c1_i32_69 c2_i32_67
  let v129 : BitVec 32 := Scalar.remsi v123 v128
  let c0_i32_71 : BitVec 32 := 0#32
  let v131 : BitVec 1 := Scalar.cmpi .slt v129 c0_i32_71
  let c0_i32_72 : BitVec 32 := 0#32
  let v132 : BitVec 1 := Scalar.cmpi .slt v128 c0_i32_72
  let v133 : BitVec 1 := Scalar.xori v131 v132
  let c0_i32_70 : BitVec 32 := 0#32
  let v130 : BitVec 1 := Scalar.cmpi .ne v129 c0_i32_70
  let v134 : BitVec 1 := Scalar.andi v133 v130
  let v135 : BitVec 32 := Scalar.addi v129 v128
  let v136 : BitVec 32 := Scalar.select v134 v135 v129
  let c0_i32_73 : BitVec 32 := 0#32
  let v137 : BitVec 1 := Scalar.cmpi .eq v136 c0_i32_73
  let c4_i32_63 : BitVec 32 := 4#32
  let v124 : BitVec 1 := Scalar.cmpi .slt v120 c4_i32_63
  let c0_i32_64 : BitVec 32 := 0#32
  let c1_i32_65 : BitVec 32 := 1#32
  let v125 : BitVec 32 := Scalar.select v124 c0_i32_64 c1_i32_65
  let c1_i32_74 : BitVec 32 := 1#32
  let v138 : BitVec 32 := Scalar.subi c1_i32_74 v125
  let v139 : BitVec 32 := Scalar.select v137 v125 v138
  let v140 : BitVec 32 := Scalar.addi v126 v139
  let v141 : BitVec 32 := Scalar.addi v109 v140
  let c1_i32_1781 : BitVec 32 := 1#32
  let v2189 : BitVec 32 := Scalar.muli v141 c1_i32_1781
  let v2190 : BitVec 32 := Scalar.addi c0_i32_1782 v2189
  v2190.toNat
def k0_dev44 (d0 : Dev nD) : Nat :=
  let c0_i32_1802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_75 : BitVec 32 := 8#32
  let v142 : BitVec 32 := Scalar.muli v19 c8_i32_75
  let c2_i32_88 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c0_i32_37 : BitVec 32 := 0#32
  let v80 : BitVec 1 := Scalar.cmpi .eq v79 c0_i32_37
  let c7_i32 : BitVec 32 := 7#32
  let v81 : BitVec 32 := Scalar.subi c7_i32 v46
  let v82 : BitVec 32 := Scalar.select v80 v46 v81
  let c1_i32_76 : BitVec 32 := 1#32
  let v143 : BitVec 32 := Scalar.subi v82 c1_i32_76
  let c8_i32_77 : BitVec 32 := 8#32
  let c0_i32_78 : BitVec 32 := 0#32
  let v144 : BitVec 1 := Scalar.cmpi .eq c8_i32_77 c0_i32_78
  let c1_i32_79 : BitVec 32 := 1#32
  let v145 : BitVec 32 := Scalar.select v144 c1_i32_79 c8_i32_77
  let v146 : BitVec 32 := Scalar.remsi v143 v145
  let c0_i32_81 : BitVec 32 := 0#32
  let v148 : BitVec 1 := Scalar.cmpi .slt v146 c0_i32_81
  let c0_i32_82 : BitVec 32 := 0#32
  let v149 : BitVec 1 := Scalar.cmpi .slt v145 c0_i32_82
  let v150 : BitVec 1 := Scalar.xori v148 v149
  let c0_i32_80 : BitVec 32 := 0#32
  let v147 : BitVec 1 := Scalar.cmpi .ne v146 c0_i32_80
  let v151 : BitVec 1 := Scalar.andi v150 v147
  let v152 : BitVec 32 := Scalar.addi v146 v145
  let v153 : BitVec 32 := Scalar.select v151 v152 v146
  let c4_i32_83 : BitVec 32 := 4#32
  let v154 : BitVec 1 := Scalar.cmpi .slt v153 c4_i32_83
  let c7_i32_84 : BitVec 32 := 7#32
  let v155 : BitVec 32 := Scalar.subi c7_i32_84 v153
  let v156 : BitVec 32 := Scalar.select v154 v153 v155
  let v159 : BitVec 32 := Scalar.muli c2_i32_88 v156
  let c2_i32_89 : BitVec 32 := 2#32
  let c0_i32_90 : BitVec 32 := 0#32
  let v160 : BitVec 1 := Scalar.cmpi .eq c2_i32_89 c0_i32_90
  let c1_i32_91 : BitVec 32 := 1#32
  let v161 : BitVec 32 := Scalar.select v160 c1_i32_91 c2_i32_89
  let v162 : BitVec 32 := Scalar.remsi v156 v161
  let c0_i32_93 : BitVec 32 := 0#32
  let v164 : BitVec 1 := Scalar.cmpi .slt v162 c0_i32_93
  let c0_i32_94 : BitVec 32 := 0#32
  let v165 : BitVec 1 := Scalar.cmpi .slt v161 c0_i32_94
  let v166 : BitVec 1 := Scalar.xori v164 v165
  let c0_i32_92 : BitVec 32 := 0#32
  let v163 : BitVec 1 := Scalar.cmpi .ne v162 c0_i32_92
  let v167 : BitVec 1 := Scalar.andi v166 v163
  let v168 : BitVec 32 := Scalar.addi v162 v161
  let v169 : BitVec 32 := Scalar.select v167 v168 v162
  let c0_i32_95 : BitVec 32 := 0#32
  let v170 : BitVec 1 := Scalar.cmpi .eq v169 c0_i32_95
  let c4_i32_85 : BitVec 32 := 4#32
  let v157 : BitVec 1 := Scalar.cmpi .slt v153 c4_i32_85
  let c0_i32_86 : BitVec 32 := 0#32
  let c1_i32_87 : BitVec 32 := 1#32
  let v158 : BitVec 32 := Scalar.select v157 c0_i32_86 c1_i32_87
  let c1_i32_96 : BitVec 32 := 1#32
  let v171 : BitVec 32 := Scalar.subi c1_i32_96 v158
  let v172 : BitVec 32 := Scalar.select v170 v158 v171
  let v173 : BitVec 32 := Scalar.addi v159 v172
  let v174 : BitVec 32 := Scalar.addi v142 v173
  let c1_i32_1801 : BitVec 32 := 1#32
  let v2207 : BitVec 32 := Scalar.muli v174 c1_i32_1801
  let v2208 : BitVec 32 := Scalar.addi c0_i32_1802 v2207
  v2208.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x512 : Shape := ⟨2, ![65536, 512]⟩
abbrev S32x2048x512 : Shape := ⟨3, ![32, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S32x2048x512, .f32⟩
  | .hbm, ⟨2, _⟩ => ⟨S_, .f32⟩
  | .hbm, ⟨3, _⟩ => ⟨S2048x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
# The kernel's body as a sequence of named steps

The printed body is one straight line of some two hundred and sixty memory operations. Here it is written again as four LEGS —
two that reduce, two that gather —, each a loop over its landing slots, with a leg's data (its landing buffers,
semaphores, source rectangles, addressed devices, updated rectangles) collected in one structure. The proof
then states each step once, for either half of the columns and for any slot.
-/
module

public import proofs.«01_k».proof.Proof.Gen.KernelIdeal
public import proofs.«01_k».proof.Proof.Gen.KernelIdeal.Skeleton

@[expose] public section

noncomputable section

namespace Cert.AllReduce

open Cert.KernelIdeal Cert.KernelIdeal.Gen
open Idealize.ShloMosaic Idealize.ShloMosaic.TcCoe Idealize.SL.Sem

variable {F : FTy → Type} [FloatOps F]

/-- A block of `R` rows of one half of the columns; the same with a leading axis of one; `n` of them. -/
abbrev SB (R : ℕ) : Shape := ⟨2, ![R, 256]⟩
abbrev SL (R : ℕ) : Shape := ⟨3, ![1, R, 256]⟩
abbrev SK (n R : ℕ) : Shape := ⟨3, ![n, R, 256]⟩

abbrev PP (F : FTy → Type) [FloatOps F] : Type 1 := Prog (TpuEff nD τ sig (Elt F) Λ₀ .tc) PUnit

abbrev xM : Memref sig .tc .vmem S2048x512 .f32 := Memref.whole cc0_stg0_0
abbrev oM : Memref sig .tc .vmem S2048x512 .f32 := Memref.whole cc0_stg1_0

theorem inb_slot {n R : ℕ} (t : Fin n) : ∀ a, (![t.val, 0, 0] : Fin 3 → ℕ) a + (SL R).size a ≤ (SK n R).size a := by
  intro a
  have := t.isLt
  fin_cases a
  · show t.val + 1 ≤ n; omega
  · show 0 + R ≤ R; omega
  · show 0 + 256 ≤ 256; omega

theorem inb_sem {n : ℕ} (t : Fin n) : ∀ a, (![t.val] : Fin 1 → ℕ) a + S1.size a ≤ (⟨1, ![n]⟩ : Shape).size a := by
  intro a
  have := t.isLt
  fin_cases a
  show t.val + 1 ≤ n; omega

theorem squeezes_slot {R : ℕ} : (SL R).Squeezes (SB R) := by
  show Shape.dropsOnes [256, R, 1] [256, R] = true
  simp [Shape.dropsOnes]

/-- Landing slot `t` of a buffer of `n` slots, and semaphore `t` of an array of `n`. -/
abbrev slot {n R : ℕ} (b : Memref sig .tc .vmem (SK n R) .f32) (t : Fin n) : Memref sig .tc .vmem (SB R) .f32 :=
  (b.slice (Rect.unit (s := SK n R) ![t.val, 0, 0] (SL R).size (inb_slot t)) (fun _ => rfl)).squeeze (SB R) squeezes_slot
abbrev semAt {n : ℕ} (a : DmaSems sig ⟨1, ![n]⟩) (t : Fin n) : DmaSem sig :=
  ((a.slice (Rect.unit (s := ⟨1, ![n]⟩) ![t.val] S1.size (inb_sem t))).squeeze S_ squeezes_S1_S_).sem

/-- A rectangle of `R` rows of one half of the result's buffer. -/
structure At (R : ℕ) where
  off : Fin 2 → ℕ
  inb : ∀ a, off a + (SB R).size a ≤ S2048x512.size a

abbrev At.rect {R : ℕ} (p : At R) : Rect S2048x512 := Rect.unit (s := S2048x512) p.off (SB R).size p.inb
abbrev At.of {R : ℕ} (p : At R) (b : Memref sig .tc .vmem S2048x512 .f32) : Memref sig .tc .vmem (SB R) .f32 :=
  b.slice p.rect (fun _ => rfl)

theorem casts_same (R : ℕ) : (SB R).ShapeCasts (SB R) := rfl
theorem casts_slot (R : ℕ) : (SL R).ShapeCasts (SB R) := squeezes_slot.numel_eq

/-- One leg: `n` landing slots of `R` rows for either half of the columns. `src` is what transfer `t` sends and `dev` the device it
    addresses; `upd` is the rectangle of the result's buffer that slot `t` is added to, or copied to. -/
structure Leg (n R : ℕ) where
  buf : Fin 2 → Memref sig .tc .vmem (SK n R) .f32
  ss : Fin 2 → DmaSems sig ⟨1, ![n]⟩
  rs : Fin 2 → DmaSems sig ⟨1, ![n]⟩
  src : Fin 2 → Fin n → Memref sig .tc .vmem (SB R) .f32
  dev : Fin 2 → Fin n → Dev nD
  upd : Fin 2 → Fin n → At R

section Steps
variable {n R : ℕ} (L : Leg n R) (h : Fin 2) (t : Fin n)

/-- Send transfer `t`, wait for the one that lands in slot `t`, wait until transfer `t` has left. -/
def sd : PP F :=
  Prog.lift (.enqueueDma (L.src h t) (.remote (Dev.tc (L.dev h t)) (slot (L.buf h) t) (.dma (semAt (L.ss h) t))) (.dma (semAt (L.rs h) t))
    (View.wordExact_bits rfl) (View.wordExact_bits rfl) ⟨⟨rfl, Or.inl rfl⟩, trivial⟩)
def rv : PP F :=
  Prog.lift (.waitDma2 (semAt (L.rs h) t) (L.src h t) (slot (L.buf h) t) (View.wordExact_bits rfl) (View.wordExact_bits rfl))
def ws : PP F :=
  Prog.lift (.waitDma2 (semAt (L.ss h) t) (slot (L.buf h) t) (L.src h t) (View.wordExact_bits rfl) (View.wordExact_bits rfl))

/-- Add slot `t` to its rectangle; copy slot `t` to its rectangle. -/
def add (hB : (0 < (SB R).numel)) (hL : (0 < (SL R).numel)) : PP F := do
  let a : Vec F (SB R) .f32 ← Prog.lift (.load oM (L.upd h t).rect.toLoadRect (View.loadsAt_vmem hB))
  let b : Vec F (SL R) .f32 ← Prog.lift (.load (L.buf h) (Rect.unit (s := SK n R) ![t.val, 0, 0] (SL R).size (inb_slot t)).toLoadRect (View.loadsAt_vmem hL))
  let _a : Vec F (SB R) .f32 ← Prog.lift (.load oM (L.upd h t).rect.toLoadRect (View.loadsAt_vmem hB))
  Prog.lift (.store oM (L.upd h t).rect (addf (shapeCast (SB R) a (casts_same R)) (shapeCast (SB R) b (casts_slot R)) : FVec F (SB R) .f32)
    Finset.univ (View.stores_vmem_bits_univ hB rfl) (.inl rfl))
def put (hB : (0 < (SB R).numel)) (hL : (0 < (SL R).numel)) : PP F := do
  let b : Vec F (SL R) .f32 ← Prog.lift (.load (L.buf h) (Rect.unit (s := SK n R) ![t.val, 0, 0] (SL R).size (inb_slot t)).toLoadRect (View.loadsAt_vmem hL))
  let _a : Vec F (SB R) .f32 ← Prog.lift (.load oM (L.upd h t).rect.toLoadRect (View.loadsAt_vmem hB))
  Prog.lift (.store oM (L.upd h t).rect (shapeCast (SB R) b (casts_slot R) : FVec F (SB R) .f32)
    Finset.univ (View.stores_vmem_bits_univ hB rfl) (.inl rfl))
end Steps

section Loops
variable {n R : ℕ} (L : Leg (n + 1) R) (hB : 0 < (SB R).numel) (hL : 0 < (SL R).numel)

/-- `f 0`, then `f 1`, … -/
def loop : (k : ℕ) → (Fin k → PP F) → PP F
  | 0, _ => pure ⟨⟩
  | k + 1, f => do f 0; loop k fun i => f i.succ

/-- A reducing leg's turn: what lands in slot `t` is added and the sum sent on; the last turn sends nothing. -/
def redTurn (t : Fin n) : PP F := do
  rv L 0 t.castSucc; add L 0 t.castSucc hB hL; sd L 0 t.succ
  rv L 1 t.castSucc; add L 1 t.castSucc hB hL; sd L 1 t.succ
def redLast : PP F := do
  rv L 0 (Fin.last n); add L 0 (Fin.last n) hB hL
  rv L 1 (Fin.last n); add L 1 (Fin.last n) hB hL

/-- A gathering leg's turn: what lands in slot `t` is sent on as it is, and copied to its place. -/
def gatTurn (t : Fin n) : PP F := do
  rv L 0 t.castSucc; sd L 0 t.succ
  rv L 1 t.castSucc; sd L 1 t.succ
  put L 0 t.castSucc hB hL; put L 1 t.castSucc hB hL
def gatLast : PP F := do
  rv L 0 (Fin.last n); rv L 1 (Fin.last n)
  put L 0 (Fin.last n) hB hL; put L 1 (Fin.last n) hB hL

/-- Both halves' first transfers, and both halves' departures awaited. -/
def start : PP F := do sd L 0 0; sd L 1 0
def drainTurn (t : Fin (n + 1)) : PP F := do ws L 0 t; ws L 1 t

def redLeg : PP F := do loop n (redTurn L hB hL); redLast L hB hL; loop (n + 1) (drainTurn L)
def gatLeg : PP F := do loop n (gatTurn L hB hL); gatLast L hB hL; loop (n + 1) (drainTurn L)
end Loops

/-! ## The four legs -/

section Legs
variable (d : Dev nD)

/-- The landing buffers of either half. -/
abbrev buf1 : Fin 2 → Memref sig .tc .vmem (SK 7 256) .f32 := fun | 0 => Memref.whole cc0_scratch0 | 1 => Memref.whole cc0_scratch1
abbrev buf2 : Fin 2 → Memref sig .tc .vmem (SK 3 64) .f32 := fun | 0 => Memref.whole cc0_scratch2 | 1 => Memref.whole cc0_scratch3
abbrev buf3 : Fin 2 → Memref sig .tc .vmem (SK 3 64) .f32 := fun | 0 => Memref.whole cc0_scratch4 | 1 => Memref.whole cc0_scratch5
abbrev buf4 : Fin 2 → Memref sig .tc .vmem (SK 7 256) .f32 := fun | 0 => Memref.whole cc0_scratch6 | 1 => Memref.whole cc0_scratch7

/-- The first leg, over the plane's ring: its first transfer leaves from the input, the others from the result's buffer. -/
def leg1 : Leg 7 256 where
  buf := buf1
  ss := fun | 0 => cc0_scratch8 | 1 => cc0_scratch10
  rs := fun | 0 => cc0_scratch9 | 1 => cc0_scratch11
  src := fun h t => At.of (match h with
      | 0 => ⟨k0_off1 d (BitVec.ofNat 32 t.val), k0_off1_inb d t⟩
      | 1 => ⟨k0_off2 d (BitVec.ofNat 32 t.val), k0_off2_inb d t⟩) (Fin.cases xM (fun _ => oM) t)
  dev := fun
    | 0 => ![⟨k0_dev5 d, k0_dev5_lt d⟩, ⟨k0_dev7 d, k0_dev7_lt d⟩, ⟨k0_dev9 d, k0_dev9_lt d⟩, ⟨k0_dev11 d, k0_dev11_lt d⟩,
        ⟨k0_dev13 d, k0_dev13_lt d⟩, ⟨k0_dev15 d, k0_dev15_lt d⟩, ⟨k0_dev17 d, k0_dev17_lt d⟩]
    | 1 => ![⟨k0_dev6 d, k0_dev6_lt d⟩, ⟨k0_dev8 d, k0_dev8_lt d⟩, ⟨k0_dev10 d, k0_dev10_lt d⟩, ⟨k0_dev12 d, k0_dev12_lt d⟩,
        ⟨k0_dev14 d, k0_dev14_lt d⟩, ⟨k0_dev16 d, k0_dev16_lt d⟩, ⟨k0_dev18 d, k0_dev18_lt d⟩]
  upd := fun
    | 0 => fun t => ⟨k0_off3 d (BitVec.ofNat 32 t.val), k0_off3_inb d t⟩
    | 1 => fun t => ⟨k0_off4 d (BitVec.ofNat 32 (2 + (1 : Fin 2).val)) (BitVec.ofNat 32 t.val), k0_off4_inb d 1 t⟩

def leg2 : Leg 3 64 where
  buf := buf2
  ss := fun | 0 => cc0_scratch12 | 1 => cc0_scratch14
  rs := fun | 0 => cc0_scratch13 | 1 => cc0_scratch15
  src := fun h t => At.of (match h with
      | 0 => ⟨k0_off5 d (BitVec.ofNat 32 t.val), k0_off5_inb d t⟩
      | 1 => ⟨k0_off6 d (BitVec.ofNat 32 t.val), k0_off6_inb d t⟩) oM
  dev := fun
    | 0 => ![⟨k0_dev19 d, k0_dev19_lt d⟩, ⟨k0_dev21 d, k0_dev21_lt d⟩, ⟨k0_dev23 d, k0_dev23_lt d⟩]
    | 1 => ![⟨k0_dev20 d, k0_dev20_lt d⟩, ⟨k0_dev22 d, k0_dev22_lt d⟩, ⟨k0_dev24 d, k0_dev24_lt d⟩]
  upd := fun
    | 0 => fun t => ⟨k0_off7 d (BitVec.ofNat 32 t.val), k0_off7_inb d t⟩
    | 1 => fun t => ⟨k0_off8 d (BitVec.ofNat 32 t.val), k0_off8_inb d t⟩

/-- Transfer `t` of a gathering leg sends a rectangle of the result's buffer first, then the slot that landed last. -/
abbrev onward {n R : ℕ} (first : At R) (b : Memref sig .tc .vmem (SK (n + 1) R) .f32) (t : Fin (n + 1)) : Memref sig .tc .vmem (SB R) .f32 :=
  Fin.cases (first.of oM) (fun i => slot b i.castSucc) t

def leg3 : Leg 3 64 where
  buf := buf3
  ss := fun | 0 => cc0_scratch16 | 1 => cc0_scratch18
  rs := fun | 0 => cc0_scratch17 | 1 => cc0_scratch19
  src := fun h => onward (match h with | 0 => ⟨k0_off9 d, k0_off9_inb d⟩ | 1 => ⟨k0_off10 d, k0_off10_inb d⟩) (buf3 h)
  dev := fun
    | 0 => ![⟨k0_dev25 d, k0_dev25_lt d⟩, ⟨k0_dev27 d, k0_dev27_lt d⟩, ⟨k0_dev29 d, k0_dev29_lt d⟩]
    | 1 => ![⟨k0_dev26 d, k0_dev26_lt d⟩, ⟨k0_dev28 d, k0_dev28_lt d⟩, ⟨k0_dev30 d, k0_dev30_lt d⟩]
  upd := fun
    | 0 => fun t => ⟨k0_off11 d (BitVec.ofNat 32 t.val), k0_off11_inb d t⟩
    | 1 => fun t => ⟨k0_off12 d (BitVec.ofNat 32 t.val), k0_off12_inb d t⟩

def leg4 : Leg 7 256 where
  buf := buf4
  ss := fun | 0 => cc0_scratch20 | 1 => cc0_scratch22
  rs := fun | 0 => cc0_scratch21 | 1 => cc0_scratch23
  src := fun h => onward (match h with | 0 => ⟨k0_off13 d, k0_off13_inb d⟩ | 1 => ⟨k0_off14 d, k0_off14_inb d⟩) (buf4 h)
  dev := fun
    | 0 => ![⟨k0_dev31 d, k0_dev31_lt d⟩, ⟨k0_dev33 d, k0_dev33_lt d⟩, ⟨k0_dev35 d, k0_dev35_lt d⟩, ⟨k0_dev37 d, k0_dev37_lt d⟩,
        ⟨k0_dev39 d, k0_dev39_lt d⟩, ⟨k0_dev41 d, k0_dev41_lt d⟩, ⟨k0_dev43 d, k0_dev43_lt d⟩]
    | 1 => ![⟨k0_dev32 d, k0_dev32_lt d⟩, ⟨k0_dev34 d, k0_dev34_lt d⟩, ⟨k0_dev36 d, k0_dev36_lt d⟩, ⟨k0_dev38 d, k0_dev38_lt d⟩,
        ⟨k0_dev40 d, k0_dev40_lt d⟩, ⟨k0_dev42 d, k0_dev42_lt d⟩, ⟨k0_dev44 d, k0_dev44_lt d⟩]
  upd := fun
    | 0 => fun t => ⟨k0_off15 d (BitVec.ofNat 32 t.val), k0_off15_inb d t⟩
    | 1 => fun t => ⟨k0_off4 d (BitVec.ofNat 32 (2 + (0 : Fin 2).val)) (BitVec.ofNat 32 t.val), k0_off4_inb d 0 t⟩

abbrev barS : Sem sig := (SemArray.scalar (sig.barrier 0 rfl) : Sems sig S_).sem

/-- The entry handshake: one unit to each of the four neighbours, then four units awaited. -/
def entry : PP F := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semWaitWord barS 4#32

/-- The input is copied to the result's buffer. -/
def copyIn : PP F := do
  let a : Vec F S2048x512 .f32 ← Prog.lift (.load xM (Rect.unit (s := S2048x512) ![0, 0] S2048x512.size inb_S2048x512_S2048x512_0_0).toLoadRect (View.loadsAt_vmem h_S2048x512))
  let _b : Vec F S2048x512 .f32 ← Prog.lift (.load oM (Rect.unit (s := S2048x512) ![0, 0] S2048x512.size inb_S2048x512_S2048x512_0_0).toLoadRect (View.loadsAt_vmem h_S2048x512))
  Prog.lift (.store oM (Rect.unit (s := S2048x512) ![0, 0] S2048x512.size inb_S2048x512_S2048x512_0_0) (k0_pay1 a) Finset.univ (View.stores_vmem_bits_univ h_S2048x512 rfl) (.inl rfl))

def body (d : Dev nD) : PP F := do
  entry d
  start (leg1 d); copyIn; redLeg (leg1 d) h_S256x256 h_S1x256x256
  start (leg2 d); redLeg (leg2 d) h_S64x256 h_S1x64x256
  start (leg3 d); gatLeg (leg3 d) h_S64x256 h_S1x64x256
  start (leg4 d); gatLeg (leg4 d) h_S256x256 h_S1x256x256
end Legs

end Cert.AllReduce
-- ==== Proof.Mesh.lean ====
/-
# The mesh, the copies and the rectangles

Thirty-two devices, device `c` at depth `c / 8` and at place `c mod 8` of its plane. A plane is walked as a ring of eight in snake
order; the four devices at one place of the four planes are a ring of their own. A device has four neighbours: the two of the
depth ring and the two of its plane's ring. The printed arithmetic (device words, offset words) is turned into
these coordinates here, once, by deciding each equation over the mesh.
-/
module

public import proofs.«01_k».proof.Proof.Prog

@[expose] public section

noncomputable section

namespace Cert.AllReduce

open Cert.KernelIdeal Cert.KernelIdeal.Gen
open Idealize.ShloMosaic Idealize.ShloMosaic.TcCoe Idealize.SL.Sem

variable {F : FTy → Type} [FloatOps F]

/-- Place in the plane of the device `q`-th on the snake, and the inverse. -/
def pOf : Fin 8 → Fin 8 := ![0, 3, 4, 7, 6, 5, 2, 1]
def qOf : Fin 8 → Fin 8 := ![0, 7, 6, 1, 2, 5, 4, 3]

/-- A device's depth and its position on the snake; the device at both. -/
def zc (c : Dev nD) : Fin 4 := ⟨c.val / 8, by have : c.val < 32 := c.isLt; omega⟩
def qc (c : Dev nD) : Fin 8 := qOf ⟨c.val % 8, by omega⟩
def dv (q : Fin 8) (z : Fin 4) : Dev nD := ⟨8 * z.val + (pOf q).val, by
  have := z.isLt; have := (pOf q).isLt; show _ < 32; omega⟩

theorem qc_dv : ∀ q z, qc (dv q z) = q := by decide +kernel
theorem zc_dv : ∀ q z, zc (dv q z) = z := by decide +kernel
theorem dv_eta : ∀ c, dv (qc c) (zc c) = c := by decide +kernel

/-- The neighbour in direction 0 (deeper), 1 (back), 2 (on along the snake), 3 (back along it); the opposite direction. -/
def nbr (e : Fin 4) (c : Dev nD) : Dev nD :=
  match e with
  | 0 => dv (qc c) (zc c + 1)
  | 1 => dv (qc c) (zc c - 1)
  | 2 => dv (qc c + 1) (zc c)
  | 3 => dv (qc c - 1) (zc c)
def opp : Fin 4 → Fin 4 := ![1, 0, 3, 2]

theorem opp_opp : ∀ e, opp (opp e) = e := by decide
theorem nbr_opp : ∀ e c, nbr (opp e) (nbr e c) = c := by decide +kernel
theorem nbr_opp' (e : Fin 4) (c : Dev nD) : nbr e (nbr (opp e) c) = c := by simpa [opp_opp] using nbr_opp (opp e) c

/-- A direction as a permutation of the devices. -/
def nbrE (e : Fin 4) : Dev nD ≃ Dev nD := ⟨nbr e, nbr (opp e), nbr_opp e, nbr_opp' e⟩

/-- The entry handshake's four addressees. -/
theorem dev1_eq : ∀ c : Dev nD, (⟨k0_dev1 c, k0_dev1_lt c⟩ : Dev nD) = nbr 0 c := by decide +kernel
theorem dev2_eq : ∀ c : Dev nD, (⟨k0_dev2 c, k0_dev2_lt c⟩ : Dev nD) = nbr 1 c := by decide +kernel
theorem dev3_eq : ∀ c : Dev nD, (⟨k0_dev3 c, k0_dev3_lt c⟩ : Dev nD) = nbr 2 c := by decide +kernel
theorem dev4_eq : ∀ c : Dev nD, (⟨k0_dev4 c, k0_dev4_lt c⟩ : Dev nD) = nbr 3 c := by decide +kernel

/-! ## The copies, forty per device -/

/-- A copy: its leg, half of the columns and number. -/
abbrev Cp := (Fin 2 × Fin 7) ⊕ (Fin 2 × Fin 3) ⊕ (Fin 2 × Fin 3) ⊕ (Fin 2 × Fin 7)

abbrev c1 (h : Fin 2) (t : Fin 7) : Cp := .inl (h, t)
abbrev c2 (h : Fin 2) (t : Fin 3) : Cp := .inr (.inl (h, t))
abbrev c3 (h : Fin 2) (t : Fin 3) : Cp := .inr (.inr (.inl (h, t)))
abbrev c4 (h : Fin 2) (t : Fin 7) : Cp := .inr (.inr (.inr (h, t)))

/-- The place of a copy in its device's order of issue. A device also receives, and awaits its departures, in that order. -/
def ord : Cp → Fin 40
  | .inl (h, t) => ⟨2 * t.val + h.val, by omega⟩
  | .inr (.inl (h, t)) => ⟨14 + 2 * t.val + h.val, by omega⟩
  | .inr (.inr (.inl (h, t))) => ⟨20 + 2 * t.val + h.val, by omega⟩
  | .inr (.inr (.inr (h, t))) => ⟨26 + 2 * t.val + h.val, by omega⟩

/-- The direction a copy travels. -/
def dir1 (h : Fin 2) : Fin 4 := ⟨2 + h.val, by omega⟩
def dir2 (h : Fin 2) : Fin 4 := ⟨h.val, by omega⟩
def dir : Cp → Fin 4
  | .inl (h, _) => dir1 h
  | .inr (.inl (h, _)) => dir2 h
  | .inr (.inr (.inl (h, _))) => dir2 h
  | .inr (.inr (.inr (h, _))) => dir1 h

/-- The copy's send semaphore and the semaphore it lands on, in the pool. -/
def sNo : Cp → ℕ
  | .inl (h, t) => 2 + 14 * h.val + t.val
  | .inr (.inl (h, t)) => 30 + 6 * h.val + t.val
  | .inr (.inr (.inl (h, t))) => 42 + 6 * h.val + t.val
  | .inr (.inr (.inr (h, t))) => 54 + 14 * h.val + t.val
def rNo : Cp → ℕ
  | .inl (h, t) => 9 + 14 * h.val + t.val
  | .inr (.inl (h, t)) => 33 + 6 * h.val + t.val
  | .inr (.inr (.inl (h, t))) => 45 + 6 * h.val + t.val
  | .inr (.inr (.inr (h, t))) => 61 + 14 * h.val + t.val

theorem sNo_lt : ∀ k, sNo k < 82 := by decide +kernel
theorem rNo_lt : ∀ k, rNo k < 82 := by decide +kernel
def sS (k : Cp) : DmaSem sig := ⟨sNo k, sNo_lt k⟩
def rS (k : Cp) : DmaSem sig := ⟨rNo k, rNo_lt k⟩

theorem ord_inj : Function.Injective ord := by decide +kernel
theorem sNo_inj : Function.Injective sNo := by decide +kernel
theorem rNo_inj : Function.Injective rNo := by decide +kernel
theorem sNo_ne_rNo : ∀ k k', sNo k ≠ rNo k' := by decide +kernel

theorem sem1 : ∀ (c : Dev nD) h t, semAt ((leg1 c).ss h) t = sS (c1 h t) ∧ semAt ((leg1 c).rs h) t = rS (c1 h t) := by
  decide +kernel
theorem sem2 : ∀ (c : Dev nD) h t, semAt ((leg2 c).ss h) t = sS (c2 h t) ∧ semAt ((leg2 c).rs h) t = rS (c2 h t) := by
  decide +kernel
theorem sem3 : ∀ (c : Dev nD) h t, semAt ((leg3 c).ss h) t = sS (c3 h t) ∧ semAt ((leg3 c).rs h) t = rS (c3 h t) := by
  decide +kernel
theorem sem4 : ∀ (c : Dev nD) h t, semAt ((leg4 c).ss h) t = sS (c4 h t) ∧ semAt ((leg4 c).rs h) t = rS (c4 h t) := by
  decide +kernel

theorem devs1 : ∀ (c : Dev nD) h t, (leg1 c).dev h t = nbr (dir (c1 h t)) c := by decide +kernel
theorem devs2 : ∀ (c : Dev nD) h t, (leg2 c).dev h t = nbr (dir (c2 h t)) c := by decide +kernel
theorem devs3 : ∀ (c : Dev nD) h t, (leg3 c).dev h t = nbr (dir (c3 h t)) c := by decide +kernel
theorem devs4 : ∀ (c : Dev nD) h t, (leg4 c).dev h t = nbr (dir (c4 h t)) c := by decide +kernel

/-! ## The rectangles of the result's buffer -/

/-- Slice `s` (256 rows) of half `h`; chunk `k` (64 rows) of that slice. -/
def sliceAt (h : Fin 2) (s : Fin 8) : At 256 := ⟨![256 * s.val, 256 * h.val], by
  intro a; fin_cases a
  · show 256 * s.val + 256 ≤ 2048; omega
  · show 256 * h.val + 256 ≤ 512; omega⟩
def chunkAt (h : Fin 2) (s : Fin 8) (k : Fin 4) : At 64 := ⟨![256 * s.val + 64 * k.val, 256 * h.val], by
  intro a; fin_cases a
  · show 256 * s.val + 64 * k.val + 64 ≤ 2048; omega
  · show 256 * h.val + 256 ≤ 512; omega⟩

/-- The slice device `c` handles at step `t` of the plane's ring, the first half walking down and the second up; the last one
    is the slice it reduces in full over its plane. The chunk of that slice at step `s` of the depth ring, likewise. -/
def sl (h : Fin 2) (c : Dev nD) (t : Fin 8) : Fin 8 := if h = 0 then qc c - t else qc c + 2 + t
def ck (h : Fin 2) (c : Dev nD) (s : Fin 4) : Fin 4 := if h = 0 then zc c - s else zc c + 2 + s
def mine (c : Dev nD) : Fin 8 := qc c + 1

theorem sl_last : ∀ h c, sl h c 7 = mine c := by decide +kernel
theorem sl_inj : ∀ h c, Function.Injective (sl h c) := by decide +kernel
theorem ck_inj : ∀ h c, Function.Injective (ck h c) := by decide +kernel
/-- What one device has at step `t` its neighbour down the way has at step `t + 1`. -/
theorem sl_nbr : ∀ h (t : Fin 7) c, sl h c t.castSucc = sl h (nbr (dir1 h) c) t.succ := by decide +kernel
theorem ck_nbr : ∀ h (s : Fin 3) c, ck h c s.castSucc = ck h (nbr (dir2 h) c) s.succ := by decide +kernel
theorem sl_wrap : ∀ h c, sl h c 7 = sl h (nbr (dir1 h) c) 0 := by decide +kernel
theorem ck_wrap : ∀ h c, ck h c 3 = ck h (nbr (dir2 h) c) 0 := by decide +kernel
theorem mine_nbr : ∀ h c, mine (nbr (dir2 h) c) = mine c := by decide +kernel

theorem At.ext' {R : ℕ} {p p' : At R} (h : p.off = p'.off) : p = p' := by cases p; cases p'; cases h; rfl

theorem off1_eq : ∀ (c : Dev nD) (t : Fin 7), k0_off1 c (BitVec.ofNat 32 t.val) = (sliceAt 0 (sl 0 c t.castSucc)).off := by decide +kernel
theorem off2_eq : ∀ (c : Dev nD) (t : Fin 7), k0_off2 c (BitVec.ofNat 32 t.val) = (sliceAt 1 (sl 1 c t.castSucc)).off := by decide +kernel
theorem off3_eq : ∀ (c : Dev nD) (t : Fin 7), k0_off3 c (BitVec.ofNat 32 t.val) = (sliceAt 0 (sl 0 c t.succ)).off := by decide +kernel
theorem off4_add : ∀ (c : Dev nD) (t : Fin 7), k0_off4 c (BitVec.ofNat 32 (2 + (1 : Fin 2).val)) (BitVec.ofNat 32 t.val) = (sliceAt 1 (sl 1 c t.succ)).off := by
  decide +kernel
theorem off5_eq : ∀ (c : Dev nD) (t : Fin 3), k0_off5 c (BitVec.ofNat 32 t.val) = (chunkAt 0 (mine c) (ck 0 c t.castSucc)).off := by decide +kernel
theorem off6_eq : ∀ (c : Dev nD) (t : Fin 3), k0_off6 c (BitVec.ofNat 32 t.val) = (chunkAt 1 (mine c) (ck 1 c t.castSucc)).off := by decide +kernel
theorem off7_eq : ∀ (c : Dev nD) (t : Fin 3), k0_off7 c (BitVec.ofNat 32 t.val) = (chunkAt 0 (mine c) (ck 0 c t.succ)).off := by decide +kernel
theorem off8_eq : ∀ (c : Dev nD) (t : Fin 3), k0_off8 c (BitVec.ofNat 32 t.val) = (chunkAt 1 (mine c) (ck 1 c t.succ)).off := by decide +kernel
theorem off9_eq : ∀ (c : Dev nD), k0_off9 c = (chunkAt 0 (mine c) (ck 0 c 3)).off := by decide +kernel
theorem off10_eq : ∀ (c : Dev nD), k0_off10 c = (chunkAt 1 (mine c) (ck 1 c 3)).off := by decide +kernel
theorem off11_eq : ∀ (c : Dev nD) (t : Fin 3), k0_off11 c (BitVec.ofNat 32 t.val) = (chunkAt 0 (mine c) (ck 0 c t.castSucc)).off := by decide +kernel
theorem off12_eq : ∀ (c : Dev nD) (t : Fin 3), k0_off12 c (BitVec.ofNat 32 t.val) = (chunkAt 1 (mine c) (ck 1 c t.castSucc)).off := by decide +kernel
theorem off13_eq : ∀ (c : Dev nD), k0_off13 c = (sliceAt 0 (sl 0 c 7)).off := by decide +kernel
theorem off14_eq : ∀ (c : Dev nD), k0_off14 c = (sliceAt 1 (sl 1 c 7)).off := by decide +kernel
theorem off15_eq : ∀ (c : Dev nD) (t : Fin 7), k0_off15 c (BitVec.ofNat 32 t.val) = (sliceAt 0 (sl 0 c t.castSucc)).off := by decide +kernel
theorem off4_put : ∀ (c : Dev nD) (t : Fin 7), k0_off4 c (BitVec.ofNat 32 (2 + (0 : Fin 2).val)) (BitVec.ofNat 32 t.val) = (sliceAt 1 (sl 1 c t.castSucc)).off := by
  decide +kernel

end Cert.AllReduce
-- ==== Proof.Proto.lean ====
/-
# The protocol

For each semaphore, who waits, who pays, how much, and what the payment hands over.

* The entry semaphore of device `c`: each of its four neighbours pays one unit, `c` waits for the four. The neighbour in
  direction `e` hands `c` the landing slots, of its own buffers, of every copy that `c` sends in direction `e`.
* The semaphore that copy `k` lands on, at device `c`: the neighbour opposite to `k`'s direction pays the copy's credit, `c`
  waits for it; it hands over the landing slot at the contents `inn k c`.
* The semaphore that copy `k` leaves with, at device `c`: `c` pays and `c` waits; the source comes back at what it held.

A device issues its copies, awaits the landings and awaits the departures in the one order `ord`. A device that waits
for copy `k` to land owes only copies later than `k`: the level of a landing semaphore is its copy's place in the order.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the launch's own, and the protocol's with a neighbour's direction for a duty -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents, as functions of a row and a column -/

/-- Device `c`'s block of the input, as staged. -/
def xstg (c : Dev nD) : S2048x512.Idx → Elt F .f32 :=
  (win0_0.blk (0 : Fin 1)).view.read (Elt F) ((s₀ m ρ).mem ((c : Thread nD τ).loc main_arg0))

abbrev at2 (r k : ℕ) : S2048x512.Idx := Shape.pair ⟨r % 2048, Nat.mod_lt _ (by decide)⟩ ⟨k % 512, Nat.mod_lt _ (by decide)⟩

abbrev Cont (F : FTy → Type) := ℕ → ℕ → Elt F .f32

def xG (c : Dev nD) : Cont F := fun r k => xstg m ρ c (at2 r k)

/-- The half's partial sum on device `c` after `t` turns of the plane's ring: its own block, plus what its upstream neighbour had. -/
def P1 (h : Fin 2) : ℕ → Dev nD → Cont F
  | 0, c => xG m ρ c
  | t + 1, c => fun r k => FloatOps.addf (xG m ρ c r k) (P1 h t (nbr (opp (dir1 h)) c) r k)
/-- And after `s` more turns of the depth ring. -/
def P2 (h : Fin 2) : ℕ → Dev nD → Cont F
  | 0, c => P1 m ρ h 7 c
  | s + 1, c => fun r k => FloatOps.addf (P1 m ρ h 7 c r k) (P2 h s (nbr (opp (dir2 h)) c) r k)
/-- The total, each chunk as the one device that finishes it has it. -/
def fin : Cont F := fun r k =>
  P2 m ρ ⟨k / 256 % 2, Nat.mod_lt _ (by decide)⟩ 3 (dv (⟨r / 256 % 8, Nat.mod_lt _ (by decide)⟩ - 1) (⟨r / 64 % 4, Nat.mod_lt _ (by decide)⟩ - 1)) r k

/-- A rectangle's part of contents. -/
def blk {R : ℕ} (G : Cont F) (p : At R) : (SB R).Idx → Elt F .f32 := fun j => G (p.off 0 + (j 0).val) (p.off 1 + (j 1).val)

/-! ## Each copy's source, landing slot and contents -/

def rows : Cp → ℕ
  | .inl _ => 256
  | .inr (.inl _) => 64
  | .inr (.inr (.inl _)) => 64
  | .inr (.inr (.inr _)) => 256

def src (c : Dev nD) : (k : Cp) → Memref sig .tc .vmem (SB (rows k)) .f32
  | .inl (h, t) => (leg1 c).src h t
  | .inr (.inl (h, t)) => (leg2 c).src h t
  | .inr (.inr (.inl (h, t))) => (leg3 c).src h t
  | .inr (.inr (.inr (h, t))) => (leg4 c).src h t

def land : (k : Cp) → Memref sig .tc .vmem (SB (rows k)) .f32
  | .inl (h, t) => slot (buf1 h) t
  | .inr (.inl (h, t)) => slot (buf2 h) t
  | .inr (.inr (.inl (h, t))) => slot (buf3 h) t
  | .inr (.inr (.inr (h, t))) => slot (buf4 h) t

/-- The share of its source that a copy takes: a half where the source is also read in the meantime. -/
def shr : Cp → PosShare TreeShare
  | .inl (_, t) => if t = 0 then fullShare.right else fullShare
  | .inr (.inl _) => fullShare
  | .inr (.inr (.inl (_, t))) => if t = 0 then fullShare else fullShare.right
  | .inr (.inr (.inr (_, t))) => if t = 0 then fullShare else fullShare.right

/-- What lands. -/
def inn (c : Dev nD) : (k : Cp) → (SB (rows k)).Idx → Elt F .f32
  | .inl (h, t) => blk (P1 m ρ h t.val (nbr (opp (dir1 h)) c)) (sliceAt h (sl h c t.succ))
  | .inr (.inl (h, t)) => blk (P2 m ρ h t.val (nbr (opp (dir2 h)) c)) (chunkAt h (mine c) (ck h c t.succ))
  | .inr (.inr (.inl (h, t))) => blk (fin m ρ) (chunkAt h (mine c) (ck h c t.castSucc))
  | .inr (.inr (.inr (h, t))) => blk (fin m ρ) (sliceAt h (sl h c t.castSucc))

def Nc (k : Cp) : ℕ := RefSig.tileCredit (SB (rows k)) .f32

theorem credit_eq {R : ℕ} (b : Memref sig .tc .vmem (SB R) .f32) : b.view.dmaCredit = RefSig.tileCredit (SB R) .f32 := rfl
theorem Nc_pos (k : Cp) : 0 < Nc k := by
  have a : 0 < RefSig.tileCredit (SB 256) .f32 := by decide
  have b : 0 < RefSig.tileCredit (SB 64) .f32 := by decide
  rcases k with ⟨h, t⟩ | ⟨h, t⟩ | ⟨h, t⟩ | ⟨h, t⟩
  exacts [a, b, b, a]

abbrev tgt (k : Cp) (c : Dev nD) : Dev nD := nbr (dir k) c

/-! ## The cells -/

abbrev csem : Unit ⊕ (Cp ⊕ Cp) → SemLoc sig
  | .inl _ => .reg barS
  | .inr (.inl k) => .dma (sS k)
  | .inr (.inr k) => .dma (rS k)
abbrev osem : Cp ⊕ Cp → SemLoc sig
  | .inl k => .dma (sS k)
  | .inr k => .dma (rS k)
abbrev kcell (p : Dev nD × (Unit ⊕ (Cp ⊕ Cp))) : GSem nD τ sig := ((p.1 : Thread nD τ), csem p.2)
abbrev barCell (c : Dev nD) : GSem nD τ sig := kcell (c, .inl ())
abbrev sCell (c : Dev nD) (k : Cp) : GSem nD τ sig := kcell (c, .inr (.inl k))
abbrev rCell (c : Dev nD) (k : Cp) : GSem nD τ sig := kcell (c, .inr (.inr k))

theorem sS_inj : Function.Injective sS := fun k k' h => sNo_inj (congrArg Fin.val h)
theorem rS_inj : Function.Injective rS := fun k k' h => rNo_inj (congrArg Fin.val h)
theorem sS_ne_rS (k k' : Cp) : sS k ≠ rS k' := fun h => sNo_ne_rNo k k' (congrArg Fin.val h)

theorem csem_inj : Function.Injective csem := by
  rintro (_ | k | k) (_ | k' | k') h
  · rfl
  · cases h
  · cases h
  · cases h
  · rw [sS_inj (SemLoc.dma.inj h)]
  · exact absurd (SemLoc.dma.inj h) (sS_ne_rS k k')
  · cases h
  · exact absurd (SemLoc.dma.inj h).symm (sS_ne_rS k' k)
  · rw [rS_inj (SemLoc.dma.inj h)]

theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]

/-- What a semaphore is for, if anything. -/
def kindOf (sm : SemLoc sig) : Option (Unit ⊕ (Cp ⊕ Cp)) := by
  classical exact if h : ∃ k, csem k = sm then some h.choose else none
theorem kindOf_csem (k) : kindOf (csem k) = some k := by
  have h : ∃ k', csem k' = csem k := ⟨k, rfl⟩
  unfold kindOf
  rw [dif_pos h]
  exact congrArg some (csem_inj h.choose_spec)

/-! ## The schedule -/

/-- A copy's landing slot on device `c`, at any contents. -/
def free (k : Cp) (c : Dev nD) : sProp 𝕄 := iprop(∃ X, owns (c : Thread nD τ) (land k) fullShare X)
def barPay (e : Fin 4) (c : Dev nD) : sProp 𝕄 := bigSep (Finset.univ.filter (dir · = e)) fun k => free (F := F) k (nbr e c)
def payS (k : Cp) (c : Dev nD) : sProp 𝕄 := owns (c : Thread nD τ) (src c k) (shr k) (inn m ρ (tgt k c) k)
def payR (k : Cp) (c : Dev nD) : sProp 𝕄 := owns (c : Thread nD τ) (land k) fullShare (inn m ρ c k)

instance barPay_storable (e : Fin 4) (c : Dev nD) : BI.Storable (upEmb : UEmb _ 𝕄) (barPay (F := F) e c) := by unfold barPay free; infer_instance
instance payS_storable (k : Cp) (c : Dev nD) : BI.Storable (upEmb : UEmb _ 𝕄) (payS m ρ k c) := by unfold payS; infer_instance
instance payR_storable (k : Cp) (c : Dev nD) : BI.Storable (upEmb : UEmb _ 𝕄) (payR m ρ k c) := by unfold payR; infer_instance

/-- One round: the entry cell has the four directions for duties, of one unit each; a copy's cell the one duty 0, of the copy's credit. -/
def sch : Rounds.Schedule (GSem nD τ sig) (Fin 4) 𝕄 where
  duties g r := if r = 0 ∧ g.1.2 = .tc then
      (match kindOf g.2 with | some (.inl _) => Finset.univ | some (.inr _) => {0} | none => ∅)
    else ∅
  unitless _ := False
  amount g _ _ := match kindOf g.2 with | some (.inr (.inl k)) => Nc k | some (.inr (.inr k)) => Nc k | _ => 1
  payload g _ e := match kindOf g.2 with
    | some (.inl _) => barPay e g.1.1
    | some (.inr (.inl k)) => payS m ρ k g.1.1
    | some (.inr (.inr k)) => payR m ρ k g.1.1
    | none => iprop(emp)
  amount_pos g _ _ _ := by
    split
    · exact Nc_pos _
    · exact Nc_pos _
    · exact Nat.one_pos

instance sch_payload_storable (g : GSem nD τ sig) (r : ℕ) (e : Fin 4) : BI.Storable (upEmb : UEmb _ 𝕄) ((sch m ρ).payload g r e) := by
  dsimp only [sch]
  split <;> infer_instance

section Sched
variable (c : Dev nD) (k : Cp) (e : Fin 4)

theorem duties_bar : (sch m ρ).duties (barCell c) 0 = Finset.univ := by
  dsimp only [sch]; rw [if_pos ⟨rfl, rfl⟩, kindOf_csem]
theorem duties_s : (sch m ρ).duties (sCell c k) 0 = {0} := by
  dsimp only [sch]; rw [if_pos ⟨rfl, rfl⟩, kindOf_csem]
theorem duties_r : (sch m ρ).duties (rCell c k) 0 = {0} := by
  dsimp only [sch]; rw [if_pos ⟨rfl, rfl⟩, kindOf_csem]
theorem duties_later (g : GSem nD τ sig) : ∀ r, 1 ≤ r → (sch m ρ).duties g r = ∅ :=
  fun r hr => by dsimp only [sch]; rw [if_neg fun h => by omega]

theorem amount_bar : (sch m ρ).amount (barCell c) 0 e = 1 := by dsimp only [sch]; rw [kindOf_csem]
theorem amount_s : (sch m ρ).amount (sCell c k) 0 e = Nc k := by dsimp only [sch]; rw [kindOf_csem]
theorem amount_r : (sch m ρ).amount (rCell c k) 0 e = Nc k := by dsimp only [sch]; rw [kindOf_csem]

theorem payload_bar : (sch m ρ).payload (barCell c) 0 e = barPay e c := by dsimp only [sch]; rw [kindOf_csem]
theorem payload_s : (sch m ρ).payload (sCell c k) 0 e = payS m ρ k c := by dsimp only [sch]; rw [kindOf_csem]
theorem payload_r : (sch m ρ).payload (rCell c k) 0 e = payR m ρ k c := by dsimp only [sch]; rw [kindOf_csem]

theorem expect_bar : (sch m ρ).expect (barCell c) 0 = 4 := by
  unfold Schedule.expect Schedule.amountOf
  rw [duties_bar, Finset.sum_congr rfl fun e _ => amount_bar m ρ c e]; rfl
theorem expect_s : (sch m ρ).expect (sCell c k) 0 = Nc k := by
  unfold Schedule.expect Schedule.amountOf; rw [duties_s, Finset.sum_singleton, amount_s]
theorem expect_r : (sch m ρ).expect (rCell c k) 0 = Nc k := by
  unfold Schedule.expect Schedule.amountOf; rw [duties_r, Finset.sum_singleton, amount_r]

/-- What a wait for the whole of a cell's round takes away. -/
theorem rest_bar : bigSep ((sch m ρ).duties (barCell c) 0 \ ∅) (fun d => (sch m ρ).payload (barCell c) 0 d) = bigSep Finset.univ fun e => barPay e c := by
  rw [Finset.sdiff_empty, duties_bar]; exact bigSep_congr fun e _ => payload_bar m ρ c e
theorem rest_s : bigSep ((sch m ρ).duties (sCell c k) 0 \ ∅) (fun d => (sch m ρ).payload (sCell c k) 0 d) = payS m ρ k c := by
  rw [Finset.sdiff_empty, duties_s, bigSep_singleton, payload_s]
theorem rest_r : bigSep ((sch m ρ).duties (rCell c k) 0 \ ∅) (fun d => (sch m ρ).payload (rCell c k) 0 d) = payR m ρ k c := by
  rw [Finset.sdiff_empty, duties_r, bigSep_singleton, payload_r]
end Sched

/-! ## Ranges of the order -/

/-- The copies from place `a` up to, not including, place `b`. -/
def rng (a b : ℕ) : Finset Cp := Finset.univ.filter fun k => a ≤ (ord k).val ∧ (ord k).val < b

theorem mem_rng {a b : ℕ} {k : Cp} : k ∈ rng a b ↔ a ≤ (ord k).val ∧ (ord k).val < b := by simp [rng]
theorem ord_val_inj {k k' : Cp} (h : (ord k).val = (ord k').val) : k = k' := ord_inj (Fin.ext h)
theorem rng_first {b : ℕ} (k : Cp) (h : (ord k).val < b) : rng (ord k).val b = insert k (rng ((ord k).val + 1) b) := by
  ext k'
  rw [Finset.mem_insert, mem_rng, mem_rng]
  constructor
  · rintro ⟨h1, h2⟩
    by_cases e : (ord k').val = (ord k).val
    · exact .inl (ord_val_inj e)
    · exact .inr ⟨by omega, h2⟩
  · rintro (rfl | ⟨h1, h2⟩)
    · exact ⟨le_rfl, h⟩
    · exact ⟨by omega, h2⟩
theorem rng_last {a : ℕ} (k : Cp) (h : a ≤ (ord k).val) : rng a ((ord k).val + 1) = insert k (rng a (ord k).val) := by
  ext k'
  rw [Finset.mem_insert, mem_rng, mem_rng]
  constructor
  · rintro ⟨h1, h2⟩
    by_cases e : (ord k').val = (ord k).val
    · exact .inl (ord_val_inj e)
    · exact .inr ⟨h1, by omega⟩
  · rintro (rfl | ⟨h1, h2⟩)
    · exact ⟨h, by omega⟩
    · exact ⟨h1, by omega⟩
theorem rng_all : rng 0 40 = Finset.univ := by
  ext k; rw [mem_rng]; exact ⟨fun _ => Finset.mem_univ _, fun _ => ⟨Nat.zero_le _, (ord k).isLt⟩⟩
theorem rng_empty (a : ℕ) : rng a a = ∅ := by
  ext k; rw [mem_rng]; exact ⟨fun h => by omega, fun h => absurd h (Finset.notMem_empty _)⟩

theorem big_first {b : ℕ} (k : Cp) (h : (ord k).val < b) (Φ : Cp → sProp 𝕄) :
    bigSep (rng (ord k).val b) Φ = iprop(Φ k ∗ bigSep (rng ((ord k).val + 1) b) Φ) := by
  rw [rng_first k h, bigSep_insert fun hm => by rw [mem_rng] at hm; omega]; rfl
theorem big_last {a : ℕ} (k : Cp) (h : a ≤ (ord k).val) (Φ : Cp → sProp 𝕄) :
    bigSep (rng a ((ord k).val + 1)) Φ = iprop(Φ k ∗ bigSep (rng a (ord k).val) Φ) := by
  rw [rng_last k h, bigSep_insert fun hm => by rw [mem_rng] at hm; omega]; rfl

/-! ## What a device owes, and the levels -/

/-- The credits of the copies device `c` has yet to send, from place `i` on. -/
def owed (c : Dev nD) (i : ℕ) : CellTallies nD τ sig Unit := ∑ k ∈ rng i 40, tallyAt (rCell (tgt k c) k) () (Nc k)
abbrev unit (e : Fin 4) (c : Dev nD) : CellTallies nD τ sig Unit := tallyAt (barCell (nbr e c)) () 1
/-- At launch: all of those, and a unit to each neighbour's entry cell. -/
def O₀ (c : Dev nD) : CellTallies nD τ sig Unit := owed c 0 + unit 3 c + unit 2 c + unit 1 c + unit 0 c

theorem owed_first (c : Dev nD) (k : Cp) : owed c (ord k).val = owed c ((ord k).val + 1) + tallyAt (rCell (tgt k c) k) () (Nc k) := by
  unfold owed
  rw [rng_first k (ord k).isLt, Finset.sum_insert fun hm => by rw [mem_rng] at hm; omega, add_comm]
theorem owed_end (c : Dev nD) : owed c 40 = 0 := by unfold owed; rw [rng_empty, Finset.sum_empty]

def L (g : GSem nD τ sig) : Finset Unit := if g.1.2 = .tc then {()} else ∅
/-- The entry cells first, then the landing cells in the order of the copies; nobody is owed anything else. -/
def lv (g : GSem nD τ sig) (_ : Unit) : ℕ := match kindOf g.2 with
  | some (.inl _) => 1
  | some (.inr (.inr k)) => (ord k).val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [kindOf_csem]
theorem lv_s (c : Dev nD) (k : Cp) : lv (sCell c k) () = 0 := by dsimp only [lv]; rw [kindOf_csem]
theorem lv_r (c : Dev nD) (k : Cp) : lv (rCell c k) () = (ord k).val + 2 := by dsimp only [lv]; rw [kindOf_csem]

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem owed_pos {c : Dev nD} {i : ℕ} {g : GSem nD τ sig} {u : Unit} (h : 0 < owed c i g u) : ∃ k, i ≤ (ord k).val ∧ g = rCell (tgt k c) k := by
  unfold owed at h
  rw [Finset.sum_apply, Finsupp.finset_sum_apply] at h
  obtain ⟨k, hk, hp⟩ := Finset.exists_ne_zero_of_sum_ne_zero (Nat.pos_iff_ne_zero.mp h)
  exact ⟨k, (mem_rng.mp hk).1, tallyAt_pos (Nat.pos_iff_ne_zero.mpr hp)⟩

theorem O₀_pos {c : Dev nD} {g : GSem nD τ sig} {u : Unit} (h : 0 < O₀ c g u) : (∃ k, g = rCell (tgt k c) k) ∨ ∃ e, g = barCell (nbr e c) := by
  unfold O₀ at h
  simp only [Pi.add_apply, Finsupp.add_apply] at h
  rcases (by omega : 0 < owed c 0 g u ∨ 0 < unit 3 c g u ∨ 0 < unit 2 c g u ∨ 0 < unit 1 c g u ∨ 0 < unit 0 c g u) with h | h | h | h | h
  · obtain ⟨k, -, hk⟩ := owed_pos h; exact .inl ⟨k, hk⟩
  all_goals exact .inr ⟨_, tallyAt_pos h⟩

/-- A wait on a semaphore of level `b` is allowed while only higher cells are owed. -/
theorem mayWait_of (c : Dev nD) (sm : SemLoc sig) (b : ℕ) (hb : lv ((c : Thread nD τ), sm) () ≤ b) (O : CellTallies nD τ sig Unit)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_r (c : Dev nD) (k : Cp) (i : ℕ) (hi : (ord k).val < i) : (levAts L lv : sProp 𝕄) ⊢ MayWait (c : Thread nD τ) (.dma (rS k)) () (owed c i) :=
  mayWait_of c _ ((ord k).val + 2) (lv_r c k).le _ fun g u hg => by
    obtain ⟨k', hk', rfl⟩ := owed_pos hg
    exact ⟨rfl, by show _ < lv (rCell _ k') (); rw [lv_r]; omega⟩
theorem mayWait_s (c : Dev nD) (k : Cp) (i : ℕ) : (levAts L lv : sProp 𝕄) ⊢ MayWait (c : Thread nD τ) (.dma (sS k)) () (owed c i) :=
  mayWait_of c _ 0 (lv_s c k).le _ fun g u hg => by
    obtain ⟨k', hk', rfl⟩ := owed_pos hg
    exact ⟨rfl, by show _ < lv (rCell _ k') (); rw [lv_r]; omega⟩
theorem mayWait_bar (c : Dev nD) : (levAts L lv : sProp 𝕄) ⊢ MayWait (c : Thread nD τ) (.reg barS) () (owed c 0) :=
  mayWait_of c _ 1 (lv_bar c).le _ fun g u hg => by
    obtain ⟨k', hk', rfl⟩ := owed_pos hg
    exact ⟨rfl, by show _ < lv (rCell _ k') (); rw [lv_r]; omega⟩
/-- A staging semaphore serves no copy, and may be awaited whatever the kernel owes. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine mayWait_of c _ 0 ?_ _ fun g u hg => ?_
    · unfold lv kindOf; rw [dif_neg fun ⟨k, hk⟩ => hq k hk]
    · rcases O₀_pos hg with ⟨k, rfl⟩ | ⟨e, rfl⟩
      · exact ⟨rfl, by show _ < lv (rCell _ k) (); rw [lv_r]; omega⟩
      · exact ⟨rfl, by show _ < lv (barCell _) (); rw [lv_bar]; omega⟩
  · rw [MayWait_zero]; iintro -; iempintro

end Cert.AllReduce
-- ==== Proof.Steps.lean ====
/-
# The steps

One triple for each step of a leg: a copy sent, a landing awaited, a departure awaited; and what a load from a slot, an addition into the
result's buffer and a copy to it do to owned pieces.
-/
module

public import proofs.«01_k».proof.Proof.Proto

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Programs that return nothing -/

/-- Device `c` runs `p` to `Q`. -/
abbrev WP (c : Dev nD) (p : PP F) (Q : sProp 𝕄) : sProp 𝕄 :=
  wp frame (wpE (defs₀ (F := F)) 𝒱₀ (c : Thread nD τ) none) Set.univ p fun _ => Q

theorem WP_seq {c : Dev nD} {p p' : PP F} {P Q R : sProp 𝕄} (h : P ⊢ WP c p Q) (h' : Q ⊢ WP c p' R) :
    P ⊢ WP c (p >>= fun _ => p') R := by
  unfold WP; rw [wp_bind]; exact h.trans (wp_mono _ _ _ fun _ => h')

theorem WP_frame {c : Dev nD} {p : PP F} {P Q : sProp 𝕄} (R : sProp 𝕄) (h : P ⊢ WP c p Q) : iprop(P ∗ R) ⊢ WP c p iprop(Q ∗ R) :=
  (sep_mono_left h).trans (wp_frame_r _ _ _)

theorem WP_conseq {c : Dev nD} {p : PP F} {P P' Q Q' : sProp 𝕄} (hP : P ⊢ P') (h : P' ⊢ WP c p Q') (hQ : Q' ⊢ Q) : P ⊢ WP c p Q :=
  (hP.trans h).trans (wp_mono _ _ _ fun _ => hQ)

theorem WP_pure {c : Dev nD} {P : sProp 𝕄} : P ⊢ WP c (pure ⟨⟩) P := by
  unfold WP; rw [Prog.pure_eq_ret, wp_ret]; iintro H; imodintro; iexact H

/-- A loop, by an invariant of the turn. -/
theorem WP_loop {c : Dev nD} : ∀ {k : ℕ} (f : Fin k → PP F) (I : ℕ → sProp 𝕄) (h : ∀ t : Fin k, I t.val ⊢ WP c (f t) (I (t.val + 1))),
    I 0 ⊢ WP c (loop k f) (I k)
  | 0, _, _, _ => WP_pure
  | k + 1, f, I, h => WP_seq (h 0) (WP_loop (fun i => f i.succ) (fun n => I (n + 1)) fun t => h t.succ)

/-! ## What a device holds of the protocol -/

variable (K : Dev nD × (Unit ⊕ (Cp ⊕ Cp)) → ℕ)

/-- Everybody knows every cell's invariant, that round 0 is open, and the levels. -/
def Know : sProp 𝕄 :=
  iprop((bigSep Finset.univ fun p => cellInv ER (sch m ρ) (K p) (kcell p)) ∗ (bigSep Finset.univ fun p => reached ER (kcell p) 0) ∗ levAts L lv)

instance Know_persistent : BI.Persistent (Know m ρ K) := by unfold Know; infer_instance

theorem know_inv (p) : Know m ρ K ⊢ cellInv ER (sch m ρ) (K p) (kcell p) := by
  classical
  have h : (bigSep Finset.univ fun p => (cellInv ER (sch m ρ) (K p) (kcell p) : sProp 𝕄)) ⊢ cellInv ER (sch m ρ) (K p) (kcell p) :=
    bigSep_elim (Finset.mem_univ p)
  refine BIBase.Entails.trans ?_ h
  unfold Know; iintro ⟨H, -, -⟩; iexact H
theorem know_reached (p) : Know m ρ K ⊢ (reached ER (kcell p) 0 : sProp 𝕄) := by
  classical
  have h : (bigSep Finset.univ fun p => (reached ER (kcell p) 0 : sProp 𝕄)) ⊢ reached ER (kcell p) 0 := bigSep_elim (Finset.mem_univ p)
  refine BIBase.Entails.trans ?_ h
  unfold Know; iintro ⟨-, H, -⟩; iexact H
theorem know_lev : Know m ρ K ⊢ (levAts L lv : sProp 𝕄) := by unfold Know; iintro ⟨-, -, H⟩; iexact H

theorem know_may_r (c : Dev nD) (k : Cp) (i : ℕ) (hi : (ord k).val < i) :
    Know m ρ K ⊢ (MayWait (c : Thread nD τ) (.dma (rS k)) () (owed c i) : sProp 𝕄) := BIBase.Entails.trans (@know_lev F _ m ρ K) (mayWait_r c k i hi)
theorem know_may_s (c : Dev nD) (k : Cp) (i : ℕ) :
    Know m ρ K ⊢ (MayWait (c : Thread nD τ) (.dma (sS k)) () (owed c i) : sProp 𝕄) := BIBase.Entails.trans (@know_lev F _ m ρ K) (mayWait_s c k i)

/-- What sending copy `k` takes, besides its source; what awaiting its landing takes. -/
def toSend (c : Dev nD) (k : Cp) : sProp 𝕄 :=
  iprop(dutyTok ER (sCell c k) 0 0 ∗ dutyTok ER (rCell (tgt k c) k) 0 0 ∗ free (F := F) k (tgt k c))
def toRecv (c : Dev nD) (k : Cp) : sProp 𝕄 := iprop(atPos ER (rCell c k) 0 ∅ 0 ∗ cred (tallyAt (rCell c k) () (Nc k)))

/-- The protocol's state on device `c` with the first `i` copies sent, `j` landings and `l` departures awaited. -/
def St (c : Dev nD) (i j l : ℕ) : sProp 𝕄 :=
  iprop(Know m ρ K ∗ (∃ W, owes (c : Thread nD τ) (owed c i) W)
    ∗ bigSep (rng i 40) (toSend (F := F) c)
    ∗ bigSep (rng j 40) (toRecv (F := F) c) ∗ bigSep (rng 0 j) (fun k => semVal (rCell c k) 0)
    ∗ bigSep (rng l i) (fun k => cred (tallyAt (sCell c k) () (Nc k))) ∗ bigSep (rng l 40) (fun k => atPos ER (sCell c k) 0 ∅ 0)
    ∗ bigSep (rng 0 l) (fun k => semVal (sCell c k) 0))

/-! ## The three steps of a copy -/

section Copy
variable (c : Dev nD) (k : Cp)

def sdK : PP F :=
  Prog.lift (.enqueueDma (src c k) (.remote (Dev.tc (tgt k c)) (land k) (.dma (sS k))) (.dma (rS k))
    (View.wordExact_bits rfl) (View.wordExact_bits rfl) ⟨⟨rfl, Or.inl rfl⟩, trivial⟩)
def rvK : PP F := Prog.lift (.waitDma2 (rS k) (src c k) (land k) (View.wordExact_bits rfl) (View.wordExact_bits rfl))
def wsK : PP F := Prog.lift (.waitDma2 (sS k) (land k) (src c k) (View.wordExact_bits rfl) (View.wordExact_bits rfl))

/-- A wait for a copy's semaphore, by the credit of a piece of `R` rows. -/
theorem wait_eq (c : Dev nD) (q : DmaSem sig) {R : ℕ} (a b : Memref sig .tc .vmem (SB R) .f32) (ha : a.view.WordExact) (hb : b.view.WordExact)
    (Q : PUnit → sProp 𝕄) : wpE (defs₀ (F := F)) 𝒱₀ (c : Thread nD τ) none Set.univ (.waitDma2 q a b ha hb) Q
      = waitSpec (c : Thread nD τ) Set.univ (.dma q) (RefSig.tileCredit (SB R) .f32) Q :=
  wpE_waitDma2_eq 𝒱₀ (c : Thread nD τ) none Set.univ Q

/-- Copy `k` is sent: its source goes, at the contents that are to land. -/
theorem step_sd (j l : ℕ) (hl : l ≤ (ord k).val) :
    iprop(St m ρ K c (ord k).val j l ∗ payS m ρ k c) ⊢ WP c (sdK c k) (St m ρ K c ((ord k).val + 1) j l) := by
  unfold St WP sdK Prog.lift
  rw [big_first k (ord k).isLt, big_last k hl]
  unfold toSend free payS owns
  iintro ⟨⟨#HK, ⟨%W, HO⟩, ⟨⟨HtS, HtR, ⟨%X, %fd, %hfd, Hd⟩⟩, Hsd⟩, Hrv, Hz, Hcs, Hps, Hzs⟩, ⟨%fs, %hfs, Hs⟩⟩
  iapply (Rounds.wp_send_pointsTo 𝒱₀ ER (sch m ρ) (c : Thread nD τ) none (κ₁ := K (c, .inr (.inl k))) (κ₂ := K (tgt k c, .inr (.inr k)))
    (r₁ := 0) (r₂ := 0) (d₁ := 0) (d₂ := 0) (fs := fs) (fd := fd) (q := shr k) (src := src c k)
    (c' := ((tgt k c : Dev nD) : Thread nD τ)) (dst := land k)
    (by rw [duties_s]; exact Finset.mem_singleton_self _) (by rw [duties_r]; exact Finset.mem_singleton_self _)
    () () (Nc k) rfl (amount_s m ρ c k 0) (amount_r m ρ (tgt k c) k 0) (owed c ((ord k).val + 1)) (owed_first c k) (W := W)
    (by rw [payload_s]; unfold payS; rw [← hfs]; exact owns_intro _ _ _ _)
    (by rw [payload_r]; unfold payR
        refine (owns_intro _ _ _ _).trans (Entails.of_eq ?_)
        rw [View.read_write_univ, hfs])) $$ [HO HtS HtR Hd Hs]
  · isplitr; · iapply (know_inv m ρ K (c, .inr (.inl k))); iexact HK
    isplitr; · iapply (know_inv m ρ K (tgt k c, .inr (.inr k))); iexact HK
    isplitl [Hs]; · iexact Hs
    isplitl [Hd]; · iexact Hd
    isplitl [HO]; · iexact HO
    isplitl [HtS]; · iexact HtS
    isplitr; · iapply (know_reached m ρ K (c, .inr (.inl k))); iexact HK
    isplitl [HtR]; · iexact HtR
    iapply (know_reached m ρ K (tgt k c, .inr (.inr k))); iexact HK
  iintro ⟨Hc, HO⟩
  rw [wp_ret]; imodintro
  isplitr; · iexact HK
  isplitl [HO]; · iexists W; iexact HO
  isplitl [Hsd]; · iexact Hsd
  isplitl [Hrv]; · iexact Hrv
  isplitl [Hz]; · iexact Hz
  isplitl [Hc Hcs]
  · isplitl [Hc] <;> iassumption
  isplitl [Hps] <;> iassumption

/-- Copy `k`'s landing is awaited: the slot comes, at what lands. -/
theorem step_rv (i l : ℕ) (hi : (ord k).val < i) :
    St m ρ K c i (ord k).val l ⊢ WP c (rvK c k) iprop(St m ρ K c i ((ord k).val + 1) l ∗ payR m ρ k c) := by
  unfold St WP rvK Prog.lift
  rw [big_first k (ord k).isLt, big_last k (Nat.zero_le _)]
  unfold toRecv
  iintro ⟨#HK, ⟨%W, HO⟩, Hsd, ⟨⟨Hat, Hc⟩, Hrv⟩, Hz, Hrest⟩
  ihave #HM := (@know_may_r F _ m ρ K c k i hi) $$ HK
  iapply (Rounds.wp_wait_rest_token 𝒱₀ ER (sch m ρ) (c : Thread nD τ) none (κ := K (c, .inr (.inr k)))
      (k' := Nc k) (wait_eq c _ _ _ _ _) (Set.mem_univ _) () (O := owed c i) (W := W) (R := 0) (m := 0) (T := ∅)
      (by rw [Nat.zero_add]; exact (expect_r m ρ c k).symm)) $$ [Hc HO Hat]
  · isplitr; · iapply (know_inv m ρ K (c, .inr (.inr k))); iexact HK
    isplitl [Hc]; · iexact Hc
    isplitl [HO]; · iexact HO
    isplitr; · iexact HM
    iexact Hat
  iintro ⟨HO, Hat, -, Hpay⟩
  ihave Hp := (Entails.of_eq (rest_r m ρ c k)) $$ Hpay
  imod (Rounds.cell_close ER (sch m ρ) (Set.mem_univ (K (c, .inr (.inr k)))) (fun h => h) (R := 0 + 1) (duties_later m ρ (rCell c k))) $$ [Hat] with Hv
  · isplitr; · iapply (know_inv m ρ K (c, .inr (.inr k))); iexact HK
    iexact Hat
  rw [wp_ret]; imodintro
  isplitr [Hp]
  · isplitr; · iexact HK
    isplitl [HO]; · iexists _; iexact HO
    isplitl [Hsd]; · iexact Hsd
    isplitl [Hrv]; · iexact Hrv
    isplitl [Hv Hz]
    · isplitl [Hv] <;> iassumption
    iexact Hrest
  iexact Hp

/-- Copy `k`'s departure is awaited: its source comes back. -/
theorem step_ws (i j : ℕ) (hi : (ord k).val < i) :
    St m ρ K c i j (ord k).val ⊢ WP c (wsK c k) iprop(St m ρ K c i j ((ord k).val + 1) ∗ payS m ρ k c) := by
  unfold St WP wsK Prog.lift
  rw [big_first k hi, big_first k (ord k).isLt, big_last k (Nat.zero_le _)]
  iintro ⟨#HK, ⟨%W, HO⟩, Hsd, Hrv, Hz, ⟨Hc, Hcs⟩, ⟨Hat, Hps⟩, Hzs⟩
  ihave #HM := (@know_may_s F _ m ρ K c k i) $$ HK
  iapply (Rounds.wp_wait_rest_token 𝒱₀ ER (sch m ρ) (c : Thread nD τ) none (κ := K (c, .inr (.inl k)))
      (k' := Nc k) (wait_eq c _ _ _ _ _) (Set.mem_univ _) () (O := owed c i) (W := W) (R := 0) (m := 0) (T := ∅)
      (by rw [Nat.zero_add]; exact (expect_s m ρ c k).symm)) $$ [Hc HO Hat]
  · isplitr; · iapply (know_inv m ρ K (c, .inr (.inl k))); iexact HK
    isplitl [Hc]; · iexact Hc
    isplitl [HO]; · iexact HO
    isplitr; · iexact HM
    iexact Hat
  iintro ⟨HO, Hat, -, Hpay⟩
  ihave Hp := (Entails.of_eq (rest_s m ρ c k)) $$ Hpay
  imod (Rounds.cell_close ER (sch m ρ) (Set.mem_univ (K (c, .inr (.inl k)))) (fun h => h) (R := 0 + 1) (duties_later m ρ (sCell c k))) $$ [Hat] with Hv
  · isplitr; · iapply (know_inv m ρ K (c, .inr (.inl k))); iexact HK
    iexact Hat
  rw [wp_ret]; imodintro
  isplitr [Hp]
  · isplitr; · iexact HK
    isplitl [HO]; · iexists _; iexact HO
    isplitl [Hsd]; · iexact Hsd
    isplitl [Hrv]; · iexact Hrv
    isplitl [Hz]; · iexact Hz
    isplitl [Hcs]; · iexact Hcs
    isplitl [Hps]; · iexact Hps
    isplitl [Hv] <;> iassumption
  iexact Hp
end Copy

end Cert.AllReduce
-- ==== Proof.Pieces.lean ====
/-
# Pieces

Loads and stores on owned pieces of a buffer, a squeezed piece against the unsqueezed one, and the two computing steps of a leg: a landing
slot added to a rectangle of the result's buffer, and a landing slot copied to one.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores on owned pieces -/

section Pieces
variable {s : Shape} (c : Dev nD)

/-- A load of a rectangle of an owned piece gives the piece's contents. -/
theorem load_piece (b : Memref sig .tc .vmem s .f32) (r : Rect s) (hr : ∀ a, r.stride a = 1) (q : PosShare TreeShare)
    (X : r.shape.Idx → Elt F .f32) (k : Vec F r.shape .f32 → PP F) (Q P : sProp 𝕄) (hl : b.view.LoadsAt r.toLoadRect)
    (h : iprop(owns (c : Thread nD τ) (b.slice r hr) q X ∗ P) ⊢ WP c (k X) Q) :
    iprop(owns (c : Thread nD τ) (b.slice r hr) q X ∗ P) ⊢ WP c (Prog.lift (.load b r.toLoadRect hl) >>= k) Q := by
  have e : iprop(owns (c : Thread nD τ) (b.slice r hr) q X ∗ P)
      ⊢ iprop(∃ f, ⌜(b.access r).read (Elt F) f = X⌝ ∗ (((b.access r).loc (c : Thread nD τ)) ↦[(b.access r).set]{q} f) ∗ P) := by
    unfold owns; iintro ⟨⟨%f, %hf, H⟩, HP⟩; iexists f; isplitr; · ipureintro; exact hf
    isplitl [H] <;> iassumption
  refine BIBase.Entails.trans e ?_
  iintro ⟨%f, %hf, H, HP⟩
  unfold WP Prog.lift
  rw [Prog.bind_op]
  iapply (wp_load_rect 𝒱₀ (c : Thread nD τ) none Set.univ (m := b) (r := r) (Finset.Subset.refl _)) $$ H
  iintro H
  rw [hf]
  iapply h
  isplitl [H]
  · rw [← hf]; iapply (owns_intro (c : Thread nD τ) (b.slice r hr) q f); iexact H
  iexact HP

/-- A store through a rectangle of an owned piece leaves the piece at what was stored. -/
theorem store_piece (b : Memref sig .tc .vmem s .f32) (r : Rect s) (hr : ∀ a, r.stride a = 1)
    (X w : r.shape.Idx → Elt F .f32) (hx : (b.access r).Stores Finset.univ) (hm) :
    owns (c : Thread nD τ) (b.slice r hr) fullShare X
      ⊢ WP c (Prog.lift (.store b r w Finset.univ hx hm)) (owns (c : Thread nD τ) (b.slice r hr) fullShare w) := by
  have e : (owns (c : Thread nD τ) (b.slice r hr) fullShare X : sProp 𝕄)
      ⊢ iprop(∃ f : (b.access r).ty.Contents (Elt F), ((b.access r).loc (c : Thread nD τ)) ↦[(b.access r).set]{fullShare} f) := by
    unfold owns; iintro ⟨%f, %hf, H⟩; iexists f; iexact H
  refine BIBase.Entails.trans e ?_
  iintro ⟨%f, H⟩
  unfold WP Prog.lift
  iapply (wp_store 𝒱₀ (c : Thread nD τ) none Set.univ (m := b) (r := r) (Mk := Finset.univ) (S := (b.access r).set) (f := f) (Finset.Subset.refl _)) $$ H
  iintro H
  rw [wp_ret]; imodintro
  have hw : (b.slice r hr).view.read (Elt F) ((b.access r).write (Elt F) f w Finset.univ) = w := View.read_write_univ f w
  have e' : (((b.access r).loc (c : Thread nD τ)) ↦[(b.access r).set]{fullShare} ((b.access r).write (Elt F) f w Finset.univ) : sProp 𝕄) ⊢ _ :=
    owns_intro (c : Thread nD τ) (b.slice r hr) fullShare ((b.access r).write (Elt F) f w Finset.univ)
  rw [hw] at e'
  iapply e'; iexact H

/-- A squeezed piece is the piece, its contents re-indexed. -/
theorem owns_squeeze {s' : Shape} (b : Memref sig .tc .vmem s .f32) (h : s.Squeezes s') (q : PosShare TreeShare) (X : s'.Idx → Elt F .f32) :
    (owns (c : Thread nD τ) (b.squeeze s' h) q X : sProp 𝕄)
      ⊣⊢ owns (c : Thread nD τ) b q (fun j => X ((Shape.reshapeEquiv h.numel_eq).symm j)) := by
  have hset : (b.squeeze s' h).view.set = b.view.set := View.set_reshape _ h.numel_eq
  have hread : ∀ f : b.view.ty.Contents (Elt F), (b.squeeze s' h).view.read (Elt F) f = fun j => b.view.read (Elt F) f (Shape.reshapeEquiv h.numel_eq j) :=
    fun f => rfl
  constructor
  · unfold owns; iintro ⟨%f, %hf, H⟩; iexists f
    isplitr
    · ipureintro; rw [← hf, hread]; funext j; exact congrArg (b.view.read (Elt F) f) (Equiv.apply_symm_apply _ j).symm
    rw [hset]; iexact H
  · unfold owns; iintro ⟨%f, %hf, H⟩; iexists f
    isplitr
    · ipureintro; rw [hread]; funext j; rw [hf]; exact congrArg X (Equiv.symm_apply_apply _ j)
    rw [hset]; iexact H
end Pieces

/-! ## The computing steps -/

section Compute
variable {n R : ℕ} (L : Leg n R) (c : Dev nD) (h : Fin 2) (t : Fin n) (hB : 0 < (SB R).numel) (hL : 0 < (SL R).numel)

abbrev slotRect (n R : ℕ) (t : Fin n) : Rect (SK n R) := Rect.unit (s := SK n R) ![t.val, 0, 0] (SL R).size (inb_slot t)

/-- The slot's unsqueezed contents. -/
abbrev unsq (X : (SB R).Idx → Elt F .f32) : (SL R).Idx → Elt F .f32 := fun j => X ((Shape.reshapeEquiv squeezes_slot.numel_eq).symm j)

theorem cast_unsq (X : (SB R).Idx → Elt F .f32) : (shapeCast (SB R) (unsq X) (casts_slot R) : (SB R).Idx → Elt F .f32) = X := by
  funext j; exact congrArg X (Equiv.symm_apply_apply _ j)
theorem cast_same (X : (SB R).Idx → Elt F .f32) : (shapeCast (SB R) X (casts_same R) : (SB R).Idx → Elt F .f32) = X := by
  funext j
  show X (Shape.reshapeEquiv _ j) = X j
  have : (Shape.reshapeEquiv (casts_same R) : (SB R).Idx ≃ (SB R).Idx) = Equiv.refl _ := by
    ext x; unfold Shape.reshapeEquiv; simp
  rw [this]; rfl

variable (X Y : (SB R).Idx → Elt F .f32) (q : PosShare TreeShare)

theorem step_put : iprop(owns (c : Thread nD τ) ((L.upd h t).of oM) fullShare X ∗ owns (c : Thread nD τ) (slot (L.buf h) t) q Y)
    ⊢ WP c (put L h t hB hL) iprop(owns (c : Thread nD τ) ((L.upd h t).of oM) fullShare Y ∗ owns (c : Thread nD τ) (slot (L.buf h) t) q Y) := by
  refine WP_conseq (P' := iprop(owns (c : Thread nD τ) ((L.buf h).slice (slotRect n R t) (fun _ => rfl)) q (unsq Y)
      ∗ owns (c : Thread nD τ) ((L.upd h t).of oM) fullShare X))
    (Q' := iprop(owns (c : Thread nD τ) ((L.buf h).slice (slotRect n R t) (fun _ => rfl)) q (unsq Y)
      ∗ owns (c : Thread nD τ) ((L.upd h t).of oM) fullShare Y)) ?_ ?_ ?_
  · iintro ⟨Ho, Hs⟩
    isplitl [Hs]
    · iapply (owns_squeeze c _ squeezes_slot q Y).1; iexact Hs
    iexact Ho
  · unfold put
    refine load_piece c (L.buf h) (slotRect n R t) (fun _ => rfl) q (unsq Y) _ _ _ _ ?_
    refine BIBase.Entails.trans sep_comm.1 ?_
    refine load_piece c oM (L.upd h t).rect (fun _ => rfl) fullShare X _ _ _ _ ?_
    rw [cast_unsq]
    exact (WP_frame _ (store_piece c oM (L.upd h t).rect (fun _ => rfl) X Y _ _)).trans (wp_mono _ _ _ fun _ => sep_comm.1)
  · iintro ⟨Hs, Ho⟩
    isplitl [Ho]; · iexact Ho
    iapply (owns_squeeze c _ squeezes_slot q Y).2; iexact Hs

theorem step_add : iprop(owns (c : Thread nD τ) ((L.upd h t).of oM) fullShare X ∗ owns (c : Thread nD τ) (slot (L.buf h) t) q Y)
    ⊢ WP c (add L h t hB hL) iprop(owns (c : Thread nD τ) ((L.upd h t).of oM) fullShare (fun j => FloatOps.addf (X j) (Y j))
      ∗ owns (c : Thread nD τ) (slot (L.buf h) t) q Y) := by
  refine WP_conseq (P' := iprop(owns (c : Thread nD τ) ((L.upd h t).of oM) fullShare X
      ∗ owns (c : Thread nD τ) ((L.buf h).slice (slotRect n R t) (fun _ => rfl)) q (unsq Y)))
    (Q' := iprop(owns (c : Thread nD τ) ((L.upd h t).of oM) fullShare (fun j => FloatOps.addf (X j) (Y j))
      ∗ owns (c : Thread nD τ) ((L.buf h).slice (slotRect n R t) (fun _ => rfl)) q (unsq Y))) ?_ ?_ ?_
  · iintro ⟨Ho, Hs⟩
    isplitl [Ho]; · iexact Ho
    iapply (owns_squeeze c _ squeezes_slot q Y).1; iexact Hs
  · unfold add
    refine load_piece c oM (L.upd h t).rect (fun _ => rfl) fullShare X _ _ _ _ ?_
    refine BIBase.Entails.trans sep_comm.1 ?_
    refine load_piece c (L.buf h) (slotRect n R t) (fun _ => rfl) q (unsq Y) _ _ _ _ ?_
    refine BIBase.Entails.trans sep_comm.1 ?_
    refine load_piece c oM (L.upd h t).rect (fun _ => rfl) fullShare X _ _ _ _ ?_
    rw [cast_unsq, cast_same]
    exact WP_frame _ (store_piece c oM (L.upd h t).rect (fun _ => rfl) X (fun j => FloatOps.addf (X j) (Y j)) _ _)
  · iintro ⟨Ho, Hs⟩
    isplitl [Ho]; · iexact Ho
    iapply (owns_squeeze c _ squeezes_slot q Y).2; iexact Hs
end Compute

end Cert.AllReduce
-- ==== Proof.Legs.lean ====
/-
# The legs

What a reducing leg and a gathering leg do, for any number of slots, and then which leg of the kernel is which.
-/
module

public import proofs.«01_k».proof.Proof.Pieces

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × (Unit ⊕ (Cp ⊕ Cp)) → ℕ)

/-! ## Families over the turns of a loop -/

theorem big_fin_first {n : ℕ} (Φ : Fin (n + 1) → sProp 𝕄) :
    bigSep Finset.univ Φ = iprop(Φ 0 ∗ bigSep Finset.univ fun t : Fin n => Φ t.succ) := by
  classical
  have e : (Finset.univ : Finset (Fin (n + 1))) = insert 0 (Finset.univ.map (Fin.succEmb n)) := by
    ext t; refine Fin.cases ?_ (fun i => ?_) t <;> simp
  rw [e, bigSep_insert (by simp), bigSep_map]; rfl
theorem big_fin_last {n : ℕ} (Φ : Fin (n + 1) → sProp 𝕄) :
    bigSep Finset.univ Φ = iprop(Φ (Fin.last n) ∗ bigSep Finset.univ fun t : Fin n => Φ t.castSucc) := by
  classical
  have e : (Finset.univ : Finset (Fin (n + 1))) = insert (Fin.last n) (Finset.univ.map Fin.castSuccEmb) := by
    ext t; refine Fin.lastCases ?_ (fun i => ?_) t <;> simp
  rw [e, bigSep_insert (by simp), bigSep_map]; rfl

theorem big_mono {I : Type} {s : Finset I} {Φ Ψ : I → sProp 𝕄} (h : ∀ i, Φ i ⊢ Ψ i) : bigSep s Φ ⊢ bigSep s Ψ := bigSep_mono fun i _ => h i

/-- A loop whose turn `t` makes `D t` of `T t`, a state going along. -/
theorem WP_turns {c : Dev nD} : ∀ {k : ℕ} (f : Fin k → PP F) (I : ℕ → sProp 𝕄) (T D : Fin k → sProp 𝕄)
    (h : ∀ t : Fin k, iprop(I t.val ∗ T t) ⊢ WP c (f t) iprop(I (t.val + 1) ∗ D t)),
    iprop(I 0 ∗ bigSep Finset.univ T) ⊢ WP c (loop k f) iprop(I k ∗ bigSep Finset.univ D)
  | 0, f, I, T, D, h => by
    rw [show (Finset.univ : Finset (Fin 0)) = ∅ from rfl, bigSep_empty, bigSep_empty]; exact WP_pure
  | k + 1, f, I, T, D, h => by
    rw [big_fin_first T, big_fin_first D]
    refine WP_seq (Q := iprop((I 1 ∗ D 0) ∗ bigSep Finset.univ fun t : Fin k => T t.succ)) ?_ ?_
    · have h0 : iprop(I 0 ∗ T 0) ⊢ WP c (f 0) iprop(I 1 ∗ D 0) := h 0
      refine BIBase.Entails.trans ?_ (WP_frame _ h0)
      iintro ⟨HI, HT, HR⟩; isplitl [HI HT]
      · isplitl [HI]; · iexact HI
        iexact HT
      iexact HR
    · refine WP_conseq ?_ (WP_frame (D 0) (WP_turns (fun i => f i.succ) (fun i => I (i + 1)) (fun t => T t.succ) (fun t => D t.succ) fun t => h t.succ)) ?_
      · iintro ⟨⟨HI, HD⟩, HR⟩
        isplitr [HD]
        · isplitl [HI]; · iexact HI
          iexact HR
        iexact HD
      · iintro ⟨⟨HI, HR⟩, HD⟩
        isplitl [HI]; · iexact HI
        isplitl [HD]; · iexact HD
        iexact HR

/-! ## A leg, at a device -/

/-- Leg `L` of device `c` consists of the copies `C`, from place `b` of the order; slot `t` receives `In h t`. -/
structure Fits {n R : ℕ} (L : Leg n R) (c : Dev nD) (C : Fin 2 → Fin n → Cp) (b : ℕ) (In : Fin 2 → Fin n → (SB R).Idx → Elt F .f32) : Prop where
  place : ∀ h t, (ord (C h t)).val = b + 2 * t.val + h.val
  sd : ∀ h t, sd (F := F) L h t = sdK c (C h t)
  rv : ∀ h t, rv (F := F) L h t = rvK c (C h t)
  ws : ∀ h t, ws (F := F) L h t = wsK c (C h t)
  landed : ∀ h t, payR m ρ (C h t) c = owns (c : Thread nD τ) (slot (L.buf h) t) fullShare (In h t)

section Leg
variable {n R : ℕ} {L : Leg (n + 1) R} {c : Dev nD} {C : Fin 2 → Fin (n + 1) → Cp} {b : ℕ} {In : Fin 2 → Fin (n + 1) → (SB R).Idx → Elt F .f32}
variable (fit : Fits m ρ L c C b In) (hB : 0 < (SB R).numel) (hL : 0 < (SL R).numel)

include fit
theorem leg_sd (h : Fin 2) (t : Fin (n + 1)) {i i' j l : ℕ} (hi : i = b + 2 * t.val + h.val) (hi' : i' = i + 1) (hl : l ≤ i) :
    iprop(St m ρ K c i j l ∗ payS m ρ (C h t) c) ⊢ WP c (sd L h t) (St m ρ K c i' j l) := by
  have e := fit.place h t
  obtain rfl : i = (ord (C h t)).val := by omega
  subst hi'
  rw [fit.sd]; exact step_sd m ρ K c _ j l hl
theorem leg_rv (h : Fin 2) (t : Fin (n + 1)) {i j j' l : ℕ} (hj : j = b + 2 * t.val + h.val) (hj' : j' = j + 1) (hi : j < i) :
    St m ρ K c i j l ⊢ WP c (rv L h t) iprop(St m ρ K c i j' l ∗ owns (c : Thread nD τ) (slot (L.buf h) t) fullShare (In h t)) := by
  have e := fit.place h t
  obtain rfl : j = (ord (C h t)).val := by omega
  subst hj'
  rw [fit.rv, ← fit.landed]; exact step_rv m ρ K c _ i l hi
theorem leg_ws (h : Fin 2) (t : Fin (n + 1)) {i j l l' : ℕ} (hl : l = b + 2 * t.val + h.val) (hl' : l' = l + 1) (hi : l < i) :
    St m ρ K c i j l ⊢ WP c (ws L h t) iprop(St m ρ K c i j l' ∗ payS m ρ (C h t) c) := by
  have e := fit.place h t
  obtain rfl : l = (ord (C h t)).val := by omega
  subst hl'
  rw [fit.ws]; exact step_ws m ρ K c _ i j hi

theorem leg_start : iprop(St m ρ K c b b b ∗ payS m ρ (C 0 0) c ∗ payS m ρ (C 1 0) c) ⊢ WP c (start L) (St m ρ K c (b + 2) b b) := by
  unfold start
  refine WP_seq (Q := iprop(St m ρ K c (b + 1) b b ∗ payS m ρ (C 1 0) c)) ?_ ?_
  · refine WP_conseq ?_ (WP_frame (payS m ρ (C 1 0) c) (leg_sd m ρ K fit 0 0 (i := b) (j := b) (l := b) rfl rfl le_rfl)) .rfl
    iintro ⟨H1, H2, H3⟩; isplitr [H3]
    · isplitl [H1] <;> iassumption
    iexact H3
  · exact leg_sd m ρ K fit 1 0 rfl rfl (by omega)

/-- Every departure awaited: every source comes back. -/
theorem leg_drain : St m ρ K c (b + 2 * (n + 1)) (b + 2 * (n + 1)) b
    ⊢ WP c (loop (n + 1) (drainTurn L)) iprop(St m ρ K c (b + 2 * (n + 1)) (b + 2 * (n + 1)) (b + 2 * (n + 1))
        ∗ bigSep Finset.univ fun t => iprop(payS m ρ (C 0 t) c ∗ payS m ρ (C 1 t) c)) := by
  refine WP_conseq ?_ (WP_turns (drainTurn L) (fun l => St m ρ K c (b + 2 * (n + 1)) (b + 2 * (n + 1)) (b + 2 * l)) (fun _ => iprop(emp))
    (fun t => iprop(payS m ρ (C 0 t) c ∗ payS m ρ (C 1 t) c)) fun t => ?_) .rfl
  · exact BIBase.Entails.trans Laws.sep_emp.2 (sep_mono_right (BIBase.Entails.of_eq (bigSep_emp_const _).symm))
  · have := t.isLt
    unfold drainTurn
    refine WP_seq (Q := iprop(St m ρ K c (b + 2 * (n + 1)) (b + 2 * (n + 1)) (b + 2 * t.val + 1) ∗ payS m ρ (C 0 t) c)) ?_ ?_
    · refine BIBase.Entails.trans ?_ (leg_ws m ρ K fit 0 t rfl rfl (by omega))
      iintro ⟨H, -⟩; iexact H
    · refine WP_conseq .rfl (WP_frame _ (leg_ws m ρ K fit 1 t (l' := b + 2 * (t.val + 1)) rfl (by omega) (by omega))) ?_
      iintro ⟨⟨H, H1⟩, H0⟩
      isplitl [H]; · iexact H
      isplitl [H0] <;> iassumption

/-! ## A reducing leg -/

section Reducing
variable (X : Fin 2 → Fin (n + 1) → (SB R).Idx → Elt F .f32)

/-- What slot `t` makes of its rectangle. -/
abbrev added (X In : Fin 2 → Fin (n + 1) → (SB R).Idx → Elt F .f32) (h : Fin 2) (t : Fin (n + 1)) : (SB R).Idx → Elt F .f32 :=
  fun j => FloatOps.addf (X h t j) (In h t j)
abbrev updAt (L : Leg (n + 1) R) (c : Dev nD) (Y : Fin 2 → Fin (n + 1) → (SB R).Idx → Elt F .f32) (h : Fin 2) (t : Fin (n + 1)) : sProp 𝕄 :=
  owns (c : Thread nD τ) ((L.upd h t).of oM) fullShare (Y h t)
abbrev slotAt (L : Leg (n + 1) R) (c : Dev nD) (q : PosShare TreeShare) (Y : Fin 2 → Fin (n + 1) → (SB R).Idx → Elt F .f32) (h : Fin 2) (t : Fin (n + 1)) : sProp 𝕄 :=
  owns (c : Thread nD τ) (slot (L.buf h) t) q (Y h t)

theorem red_rv (h : Fin 2) (t : Fin (n + 1)) {i j j' l : ℕ} (hj : j = b + 2 * t.val + h.val) (hj' : j' = j + 1) (hi : j < i) {P : sProp 𝕄} :
    iprop(P ∗ St m ρ K c i j l ∗ updAt L c X h t)
      ⊢ WP c (rv L h t) iprop((St m ρ K c i j' l ∗ P) ∗ updAt L c X h t ∗ slotAt L c fullShare In h t) := by
  refine WP_conseq ?_ (WP_frame iprop(P ∗ updAt L c X h t) (leg_rv m ρ K fit h t (l := l) hj hj' hi)) ?_
  · iintro ⟨HP, H, Ho⟩
    isplitl [H]; · iexact H
    isplitl [HP] <;> iassumption
  · iintro ⟨⟨H, Hs⟩, HP, Ho⟩
    isplitl [H HP]
    · isplitl [H] <;> iassumption
    isplitl [Ho] <;> iassumption
omit fit in
theorem red_add (h : Fin 2) (t : Fin (n + 1)) {i j l : ℕ} {P : sProp 𝕄} :
    iprop((St m ρ K c i j l ∗ P) ∗ updAt L c X h t ∗ slotAt L c fullShare In h t)
      ⊢ WP c (add L h t hB hL) iprop(P ∗ St m ρ K c i j l ∗ updAt L c (added X In) h t ∗ slotAt L c fullShare In h t) := by
  refine WP_conseq sep_comm.1 (WP_frame iprop(St m ρ K c i j l ∗ P) (step_add L c h t hB hL (X h t) (In h t) fullShare)) ?_
  iintro ⟨⟨Ho, Hs⟩, H, HP⟩
  isplitl [HP]; · iexact HP
  isplitl [H]; · iexact H
  isplitl [Ho] <;> iassumption

theorem red_send (h : Fin 2) (t : Fin n) (hsend : payS m ρ (C h t.succ) c = updAt L c (added X In) h t.castSucc)
    {i i' j l : ℕ} (hi : i = b + 2 * (t.val + 1) + h.val) (hi' : i' = i + 1) (hl : l ≤ i) {P : sProp 𝕄} :
    iprop(P ∗ St m ρ K c i j l ∗ updAt L c (added X In) h t.castSucc ∗ slotAt L c fullShare In h t.castSucc)
      ⊢ WP c (sd L h t.succ) iprop((P ∗ slotAt L c fullShare In h t.castSucc) ∗ St m ρ K c i' j l) := by
  refine WP_conseq ?_ (WP_frame iprop(P ∗ slotAt L c fullShare In h t.castSucc) (leg_sd m ρ K fit h t.succ hi hi' hl)) sep_comm.1
  rw [hsend]
  iintro ⟨HP, H, Ho, Hs⟩
  isplitl [H Ho]
  · isplitl [H] <;> iassumption
  isplitl [HP] <;> iassumption

theorem leg_red (hsend : ∀ h (t : Fin n), payS m ρ (C h t.succ) c = updAt L c (added X In) h t.castSucc) :
    iprop(St m ρ K c (b + 2) b b ∗ bigSep Finset.univ fun t => iprop(updAt L c X 0 t ∗ updAt L c X 1 t))
      ⊢ WP c (redLeg L hB hL) iprop(St m ρ K c (b + 2 * (n + 1)) (b + 2 * (n + 1)) (b + 2 * (n + 1))
          ∗ (bigSep Finset.univ fun t => iprop(slotAt L c fullShare In 0 t ∗ slotAt L c fullShare In 1 t))
          ∗ (bigSep Finset.univ fun t => iprop(payS m ρ (C 0 t) c ∗ payS m ρ (C 1 t) c))
          ∗ updAt L c (added X In) 0 (Fin.last n) ∗ updAt L c (added X In) 1 (Fin.last n)) := by
  rw [big_fin_last fun t => iprop(updAt L c X 0 t ∗ updAt L c X 1 t), big_fin_last fun t => iprop(slotAt L c fullShare In 0 t ∗ slotAt L c fullShare In 1 t)]
  unfold redLeg
  have turns := WP_turns (c := c) (redTurn L hB hL) (fun t => St m ρ K c (b + 2 + 2 * t) (b + 2 * t) b)
    (fun t => iprop(updAt L c X 0 t.castSucc ∗ updAt L c X 1 t.castSucc)) (fun t => iprop(slotAt L c fullShare In 0 t.castSucc ∗ slotAt L c fullShare In 1 t.castSucc))
    fun t => by
      unfold redTurn
      refine BIBase.Entails.trans (Q := iprop(updAt L c X 1 t.castSucc ∗ St m ρ K c (b + 2 + 2 * t.val) (b + 2 * t.val) b ∗ updAt L c X 0 t.castSucc)) ?_ ?_
      · iintro ⟨H, H0, H1⟩
        isplitl [H1]; · iexact H1
        isplitl [H] <;> iassumption
      refine WP_seq (red_rv m ρ K fit X 0 t.castSucc (by rfl) rfl (by omega)) (WP_seq (red_add m ρ K hB hL X 0 t.castSucc) ?_)
      refine WP_seq (red_send m ρ K fit X 0 t (hsend 0 t) (i := b + 2 + 2 * t.val) (by show _ = _ + 0; omega) rfl (by omega)) ?_
      refine BIBase.Entails.trans (Q := iprop(slotAt L c fullShare In 0 t.castSucc ∗ St m ρ K c (b + 2 + 2 * t.val + 1) (b + 2 * t.val + 1) b
          ∗ updAt L c X 1 t.castSucc)) ?_ ?_
      · iintro ⟨⟨H1, Hs⟩, H⟩
        isplitl [Hs]; · iexact Hs
        isplitl [H] <;> iassumption
      refine WP_seq (red_rv m ρ K fit X 1 t.castSucc (by rfl) rfl (by omega)) (WP_seq (red_add m ρ K hB hL X 1 t.castSucc) ?_)
      refine WP_conseq .rfl (red_send m ρ K fit X 1 t (hsend 1 t) (i := b + 2 + 2 * t.val + 1) (i' := b + 2 + 2 * (t.val + 1))
        (by show _ = _ + 1; omega) (by omega) (by omega)) ?_
      rw [show b + 2 * t.val + 1 + 1 = b + 2 * (t.val + 1) by omega]
      iintro ⟨⟨Hs0, Hs1⟩, H⟩
      isplitl [H]; · iexact H
      isplitl [Hs0] <;> iassumption
  refine WP_seq (WP_conseq ?_ (WP_frame iprop(updAt L c X 0 (Fin.last n) ∗ updAt L c X 1 (Fin.last n)) turns) .rfl) ?_
  · iintro ⟨H, ⟨H0, H1⟩, HT⟩
    isplitr [H0 H1]
    · isplitl [H] <;> iassumption
    isplitl [H0] <;> iassumption
  refine WP_seq (Q := iprop(St m ρ K c (b + 2 * (n + 1)) (b + 2 * (n + 1)) b
      ∗ (updAt L c (added X In) 0 (Fin.last n) ∗ slotAt L c fullShare In 0 (Fin.last n))
      ∗ (updAt L c (added X In) 1 (Fin.last n) ∗ slotAt L c fullShare In 1 (Fin.last n))
      ∗ bigSep Finset.univ fun t : Fin n => iprop(slotAt L c fullShare In 0 t.castSucc ∗ slotAt L c fullShare In 1 t.castSucc))) ?_ ?_
  · unfold redLast
    refine BIBase.Entails.trans (Q := iprop((updAt L c X 1 (Fin.last n) ∗ bigSep Finset.univ fun t : Fin n =>
      iprop(slotAt L c fullShare In 0 t.castSucc ∗ slotAt L c fullShare In 1 t.castSucc)) ∗ St m ρ K c (b + 2 + 2 * n) (b + 2 * n) b ∗ updAt L c X 0 (Fin.last n))) ?_ ?_
    · iintro ⟨⟨H, HR⟩, Ho0, Ho1⟩
      isplitl [HR Ho1]
      · isplitl [Ho1] <;> iassumption
      isplitl [H] <;> iassumption
    refine WP_seq (red_rv m ρ K fit X 0 (Fin.last n) (by rfl) rfl (by omega)) (WP_seq (red_add m ρ K hB hL X 0 (Fin.last n)) ?_)
    refine BIBase.Entails.trans (Q := iprop((updAt L c (added X In) 0 (Fin.last n) ∗ slotAt L c fullShare In 0 (Fin.last n) ∗ bigSep Finset.univ fun t : Fin n =>
      iprop(slotAt L c fullShare In 0 t.castSucc ∗ slotAt L c fullShare In 1 t.castSucc))
        ∗ St m ρ K c (b + 2 + 2 * n) (b + 2 * n + 1) b ∗ updAt L c X 1 (Fin.last n))) ?_ ?_
    · iintro ⟨⟨Ho1, HR⟩, H, Ho0, Hs0⟩
      isplitl [HR Ho0 Hs0]
      · isplitl [Ho0]; · iexact Ho0
        isplitl [Hs0] <;> iassumption
      isplitl [H] <;> iassumption
    refine WP_conseq .rfl (WP_seq (red_rv m ρ K fit X 1 (Fin.last n) (by rfl) rfl (by omega)) (red_add m ρ K hB hL X 1 (Fin.last n))) ?_
    rw [show b + 2 + 2 * n = b + 2 * (n + 1) by omega, show b + 2 * n + 1 + 1 = b + 2 * (n + 1) by omega]
    iintro ⟨⟨Ho0, Hs0, HR⟩, H, Ho1, Hs1⟩
    isplitl [H]; · iexact H
    isplitl [Ho0 Hs0]
    · isplitl [Ho0] <;> iassumption
    isplitl [Ho1 Hs1]
    · isplitl [Ho1] <;> iassumption
    iexact HR
  · refine WP_conseq ?_ (WP_frame iprop((updAt L c (added X In) 0 (Fin.last n) ∗ slotAt L c fullShare In 0 (Fin.last n))
      ∗ (updAt L c (added X In) 1 (Fin.last n) ∗ slotAt L c fullShare In 1 (Fin.last n))
      ∗ bigSep Finset.univ fun t : Fin n => iprop(slotAt L c fullShare In 0 t.castSucc ∗ slotAt L c fullShare In 1 t.castSucc)) (leg_drain m ρ K fit)) ?_
    · iintro ⟨H, HR⟩; isplitl [H] <;> iassumption
    · iintro ⟨⟨H, Hp⟩, ⟨Ho0, Hs0⟩, ⟨Ho1, Hs1⟩, HR⟩
      isplitl [H]; · iexact H
      isplitl [Hs0 Hs1 HR]
      · isplitr [HR]
        · isplitl [Hs0] <;> iassumption
        iexact HR
      isplitl [Hp]; · iexact Hp
      isplitl [Ho0] <;> iassumption
end Reducing

/-! ## A gathering leg -/

section Gathering
variable (X : Fin 2 → Fin (n + 1) → (SB R).Idx → Elt F .f32)

theorem gat_rv (h : Fin 2) (t : Fin (n + 1)) {i j j' l : ℕ} (hj : j = b + 2 * t.val + h.val) (hj' : j' = j + 1) (hi : j < i) (P : sProp 𝕄) :
    iprop(St m ρ K c i j l ∗ P) ⊢ WP c (rv L h t) iprop((St m ρ K c i j' l ∗ slotAt L c fullShare.right In h t) ∗ slotAt L c fullShare.left In h t ∗ P) := by
  refine WP_conseq .rfl (WP_frame P (leg_rv m ρ K fit h t (l := l) hj hj' hi)) ?_
  iintro ⟨⟨H, Hs⟩, HP⟩
  ihave Hs := (owns_halves (c : Thread nD τ) (slot (L.buf h) t) fullShare (In h t)).1 $$ Hs
  icases Hs with ⟨Hl, Hr⟩
  isplitl [H Hr]
  · isplitl [H] <;> iassumption
  isplitl [Hl] <;> iassumption

theorem gat_send (h : Fin 2) (t : Fin n) (hsend : payS m ρ (C h t.succ) c = slotAt L c fullShare.right In h t.castSucc)
    {i i' j l : ℕ} (hi : i = b + 2 * (t.val + 1) + h.val) (hi' : i' = i + 1) (hl : l ≤ i) (P : sProp 𝕄) :
    iprop((St m ρ K c i j l ∗ slotAt L c fullShare.right In h t.castSucc) ∗ P) ⊢ WP c (sd L h t.succ) iprop(St m ρ K c i' j l ∗ P) :=
  WP_frame P (hsend ▸ leg_sd m ρ K fit h t.succ hi hi' hl)

omit fit in
theorem gat_put (h : Fin 2) (t : Fin (n + 1)) (q : PosShare TreeShare) (P : sProp 𝕄) :
    iprop(P ∗ updAt L c X h t ∗ slotAt L c q In h t) ⊢ WP c (put L h t hB hL) iprop(P ∗ updAt L c In h t ∗ slotAt L c q In h t) :=
  WP_conseq sep_comm.1 (WP_frame P (step_put L c h t hB hL (X h t) (In h t) q)) sep_comm.1

theorem leg_gat (hsend : ∀ h (t : Fin n), payS m ρ (C h t.succ) c = slotAt L c fullShare.right In h t.castSucc) :
    iprop(St m ρ K c (b + 2) b b ∗ bigSep Finset.univ fun t => iprop(updAt L c X 0 t ∗ updAt L c X 1 t))
      ⊢ WP c (gatLeg L hB hL) iprop(St m ρ K c (b + 2 * (n + 1)) (b + 2 * (n + 1)) (b + 2 * (n + 1))
          ∗ (bigSep Finset.univ fun t => iprop(slotAt L c fullShare In 0 t ∗ slotAt L c fullShare In 1 t))
          ∗ (bigSep Finset.univ fun t => iprop(updAt L c In 0 t ∗ updAt L c In 1 t))
          ∗ payS m ρ (C 0 0) c ∗ payS m ρ (C 1 0) c) := by
  rw [big_fin_last fun t => iprop(updAt L c X 0 t ∗ updAt L c X 1 t), big_fin_last fun t => iprop(updAt L c In 0 t ∗ updAt L c In 1 t),
    big_fin_last fun t => iprop(slotAt L c fullShare In 0 t ∗ slotAt L c fullShare In 1 t)]
  unfold gatLeg
  have turns := WP_turns (c := c) (gatTurn L hB hL) (fun t => St m ρ K c (b + 2 + 2 * t) (b + 2 * t) b)
    (fun t => iprop(updAt L c X 0 t.castSucc ∗ updAt L c X 1 t.castSucc))
    (fun t => iprop((slotAt L c fullShare.left In 0 t.castSucc ∗ slotAt L c fullShare.left In 1 t.castSucc)
      ∗ (updAt L c In 0 t.castSucc ∗ updAt L c In 1 t.castSucc)))
    fun t => by
      unfold gatTurn
      refine WP_seq (gat_rv m ρ K fit 0 t.castSucc (by rfl) rfl (by omega) _) ?_
      refine WP_seq (gat_send m ρ K fit 0 t (hsend 0 t) (by show _ = _ + 0; omega) rfl (by omega) _) ?_
      refine WP_seq (gat_rv m ρ K fit 1 t.castSucc (by rfl) rfl (by omega) _) ?_
      refine WP_seq (gat_send m ρ K fit 1 t (hsend 1 t) (by show _ = _ + 1; omega) rfl (by omega) _) ?_
      refine BIBase.Entails.trans (Q := iprop((St m ρ K c (b + 2 + 2 * t.val + 1 + 1) (b + 2 * t.val + 1 + 1) b ∗ updAt L c X 1 t.castSucc ∗ slotAt L c fullShare.left In 1 t.castSucc)
        ∗ updAt L c X 0 t.castSucc ∗ slotAt L c fullShare.left In 0 t.castSucc)) ?_ ?_
      · iintro ⟨H, Hs1, Hs0, Ho0, Ho1⟩
        isplitl [H Hs1 Ho1]
        · isplitl [H]; · iexact H
          isplitl [Ho1] <;> iassumption
        isplitl [Ho0] <;> iassumption
      refine WP_seq (gat_put hB hL X 0 t.castSucc _ _) ?_
      refine BIBase.Entails.trans (Q := iprop((St m ρ K c (b + 2 + 2 * t.val + 1 + 1) (b + 2 * t.val + 1 + 1) b ∗ updAt L c In 0 t.castSucc ∗ slotAt L c fullShare.left In 0 t.castSucc)
        ∗ updAt L c X 1 t.castSucc ∗ slotAt L c fullShare.left In 1 t.castSucc)) ?_ ?_
      · iintro ⟨⟨H, H1⟩, H0⟩
        isplitl [H H0]
        · isplitl [H] <;> iassumption
        iexact H1
      refine WP_conseq .rfl (gat_put hB hL X 1 t.castSucc _ _) ?_
      rw [show b + 2 + 2 * t.val + 1 + 1 = b + 2 + 2 * (t.val + 1) by omega, show b + 2 * t.val + 1 + 1 = b + 2 * (t.val + 1) by omega]
      iintro ⟨⟨H, Ho0, Hs0⟩, Ho1, Hs1⟩
      isplitl [H]; · iexact H
      isplitl [Hs0 Hs1]
      · isplitl [Hs0] <;> iassumption
      isplitl [Ho0] <;> iassumption
  refine WP_seq (WP_conseq ?_ (WP_frame iprop(updAt L c X 0 (Fin.last n) ∗ updAt L c X 1 (Fin.last n)) turns) .rfl) ?_
  · iintro ⟨H, HL, HT⟩
    isplitr [HL]
    · isplitl [H] <;> iassumption
    iexact HL
  rw [bigSep_sep']
  refine WP_seq (Q := iprop(St m ρ K c (b + 2 * (n + 1)) (b + 2 * (n + 1)) b
      ∗ ((updAt L c In 0 (Fin.last n) ∗ slotAt L c fullShare In 0 (Fin.last n)) ∗ (updAt L c In 1 (Fin.last n) ∗ slotAt L c fullShare In 1 (Fin.last n)))
      ∗ (bigSep Finset.univ fun t : Fin n => iprop(slotAt L c fullShare.left In 0 t.castSucc ∗ slotAt L c fullShare.left In 1 t.castSucc))
      ∗ (bigSep Finset.univ fun t : Fin n => iprop(updAt L c In 0 t.castSucc ∗ updAt L c In 1 t.castSucc)))) ?_ ?_
  · unfold gatLast
    refine BIBase.Entails.trans (Q := iprop(St m ρ K c (b + 2 + 2 * n) (b + 2 * n) b ∗ (updAt L c X 0 (Fin.last n) ∗ updAt L c X 1 (Fin.last n))
      ∗ (bigSep Finset.univ fun t : Fin n => iprop(slotAt L c fullShare.left In 0 t.castSucc ∗ slotAt L c fullShare.left In 1 t.castSucc))
      ∗ (bigSep Finset.univ fun t : Fin n => iprop(updAt L c In 0 t.castSucc ∗ updAt L c In 1 t.castSucc)))) ?_ ?_
    · iintro ⟨⟨H, Hs, Ho⟩, HL⟩
      isplitl [H]; · iexact H
      isplitl [HL]; · iexact HL
      isplitl [Hs] <;> iassumption
    refine WP_seq (WP_frame _ (leg_rv m ρ K fit 0 (Fin.last n) (by rfl) rfl (by omega))) ?_
    refine BIBase.Entails.trans (sep_assoc.1) ?_
    refine WP_seq (WP_frame _ (leg_rv m ρ K fit 1 (Fin.last n) (by rfl) rfl (by omega))) ?_
    generalize (bigSep Finset.univ fun t : Fin n => iprop(slotAt L c fullShare.left In 0 t.castSucc ∗ slotAt L c fullShare.left In 1 t.castSucc)) = HS
    generalize (bigSep Finset.univ fun t : Fin n => iprop(updAt L c In 0 t.castSucc ∗ updAt L c In 1 t.castSucc)) = HU
    refine BIBase.Entails.trans (Q := iprop((St m ρ K c (b + 2 + 2 * n) (b + 2 * n + 1 + 1) b ∗ (updAt L c X 1 (Fin.last n) ∗ slotAt L c fullShare In 1 (Fin.last n)) ∗ HS ∗ HU)
        ∗ updAt L c X 0 (Fin.last n) ∗ slotAt L c fullShare In 0 (Fin.last n))) ?_ ?_
    · iintro ⟨⟨H, Hs1⟩, Hs0, ⟨Ho0, Ho1⟩, HS, HU⟩
      isplitr [Hs0 Ho0]
      · isplitl [H]; · iexact H
        isplitl [Ho1 Hs1]
        · isplitl [Ho1] <;> iassumption
        isplitl [HS] <;> iassumption
      isplitl [Ho0] <;> iassumption
    refine WP_seq (gat_put hB hL X 0 (Fin.last n) _ _) ?_
    refine BIBase.Entails.trans (Q := iprop((St m ρ K c (b + 2 + 2 * n) (b + 2 * n + 1 + 1) b ∗ (updAt L c In 0 (Fin.last n) ∗ slotAt L c fullShare In 0 (Fin.last n)) ∗ HS ∗ HU)
        ∗ updAt L c X 1 (Fin.last n) ∗ slotAt L c fullShare In 1 (Fin.last n))) ?_ ?_
    · iintro ⟨⟨H, H1, HR⟩, H0⟩
      isplitl [H H0 HR]
      · isplitl [H]; · iexact H
        isplitl [H0] <;> iassumption
      iexact H1
    refine WP_conseq .rfl (gat_put hB hL X 1 (Fin.last n) _ _) ?_
    rw [show b + 2 + 2 * n = b + 2 * (n + 1) by omega, show b + 2 * n + 1 + 1 = b + 2 * (n + 1) by omega]
    iintro ⟨⟨H, H0, HR⟩, H1⟩
    isplitl [H]; · iexact H
    isplitl [H0 H1]
    · isplitl [H0] <;> iassumption
    iexact HR
  · refine WP_conseq .rfl (WP_frame _ (leg_drain m ρ K fit)) ?_
    rw [big_fin_first fun t => iprop(payS m ρ (C 0 t) c ∗ payS m ρ (C 1 t) c)]
    simp only [hsend]
    have join : iprop((bigSep Finset.univ fun t : Fin n => iprop(slotAt L c fullShare.left In 0 t.castSucc ∗ slotAt L c fullShare.left In 1 t.castSucc))
          ∗ bigSep Finset.univ fun t : Fin n => iprop(slotAt L c fullShare.right In 0 t.castSucc ∗ slotAt L c fullShare.right In 1 t.castSucc))
        ⊢ bigSep Finset.univ fun t : Fin n => iprop(slotAt L c fullShare In 0 t.castSucc ∗ slotAt L c fullShare In 1 t.castSucc) := by
      rw [← bigSep_sep']
      refine big_mono fun t => ?_
      iintro ⟨⟨Hl0, Hl1⟩, Hr0, Hr1⟩
      isplitl [Hl0 Hr0]
      · iapply (owns_halves (c : Thread nD τ) (slot (L.buf 0) t.castSucc) fullShare (In 0 t.castSucc)).2
        isplitl [Hl0] <;> iassumption
      · iapply (owns_halves (c : Thread nD τ) (slot (L.buf 1) t.castSucc) fullShare (In 1 t.castSucc)).2
        isplitl [Hl1] <;> iassumption
    iintro ⟨⟨H, Hp0, Hpr⟩, ⟨⟨Ho0, Hs0⟩, Ho1, Hs1⟩, Hsl, HU⟩
    isplitl [H]; · iexact H
    isplitl [Hs0 Hs1 Hsl Hpr]
    · isplitl [Hs0 Hs1]
      · isplitl [Hs0] <;> iassumption
      iapply join
      isplitl [Hsl] <;> iassumption
    isplitr [Hp0]
    · isplitl [Ho0 Ho1]
      · isplitl [Ho0] <;> iassumption
      iexact HU
    iexact Hp0
end Gathering
end Leg

end Cert.AllReduce
-- ==== Proof.Parts.lean ====
/-
# Parts

The result's buffer (and the input's) as its sixteen slices, a slice as its four chunks, and a landing buffer as its slots.
-/
module

public import proofs.«01_k».proof.Proof.Legs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem eqv {P Q : sProp 𝕄} (h : P ⊢ Q) (h' : Q ⊢ P) : P = Q := BI.equiv_iff.mp ⟨h, h'⟩

/-! ## Slices and chunks -/

section Boxes
variable (c : Dev nD) (b : Memref sig .tc .vmem S2048x512 .f32) (q : PosShare TreeShare)

/-- Contents as a whole buffer's. -/
def flat (G : Cont F) : S2048x512.Idx → Elt F .f32 := fun i => G (i 0).val (i 1).val

theorem flat_emb {R : ℕ} (G : Cont F) (p : At R) : (fun j => flat G (p.rect.emb j)) = blk G p := by
  funext j
  show G _ _ = G _ _
  congr 1 <;> simp [At.rect]

theorem flat_at2 (X : S2048x512.Idx → Elt F .f32) : flat (fun r k => X (at2 r k)) = X := by
  funext i
  refine congrArg X (funext fun a => ?_)
  have h0 : (i 0).val < 2048 := (i 0).isLt
  have h1 : (i 1).val < 512 := (i 1).isLt
  fin_cases a <;> apply Fin.ext
  · exact Nat.mod_eq_of_lt h0
  · exact Nat.mod_eq_of_lt h1

/-- A rectangle owned at contents `G`. -/
abbrev box {R : ℕ} (p : At R) (G : Cont F) : sProp 𝕄 := owns (c : Thread nD τ) (p.of b) q (blk G p)

abbrev sliceRect (x : Fin 2 × Fin 8) : Rect S2048x512 := (sliceAt x.1 x.2).rect

theorem slice_disj (x y : Fin 2 × Fin 8) (h : x ≠ y) : Disjoint (sliceRect x).set (sliceRect y).set := by
  obtain ⟨h1, s1⟩ := x
  obtain ⟨h2, s2⟩ := y
  by_cases e : h1 = h2
  · have : s1.val ≠ s2.val := fun e' => h (by rw [e, Fin.ext e'])
    refine Rect.disjoint_of_axis _ _ (0 : Fin 2) fun j₁ a j₂ b => ?_
    have a' : j₁ < 256 := a
    have b' : j₂ < 256 := b
    show 256 * s1.val + 1 * j₁ ≠ 256 * s2.val + 1 * j₂
    omega
  · have : h1.val ≠ h2.val := fun e' => e (Fin.ext e')
    refine Rect.disjoint_of_axis _ _ (1 : Fin 2) fun j₁ a j₂ b => ?_
    have a' : j₁ < 256 := a
    have b' : j₂ < 256 := b
    show 256 * h1.val + 1 * j₁ ≠ 256 * h2.val + 1 * j₂
    omega
theorem slice_cover : (Finset.univ : Finset (Fin 2 × Fin 8)).biUnion (fun x => (sliceRect x).set) = Finset.univ := by
  refine Finset.eq_univ_iff_forall.mpr fun i => ?_
  have h0 : (i 0).val < 2048 := (i 0).isLt
  have h1 : (i 1).val < 512 := (i 1).isLt
  refine Finset.mem_biUnion.mpr ⟨(⟨(i 1).val / 256, by omega⟩, ⟨(i 0).val / 256, by omega⟩), Finset.mem_univ _, ?_⟩
  refine Rect.mem_set_unit.mpr fun a => ?_
  fin_cases a
  · show 256 * ((i 0).val / 256) ≤ (i 0).val ∧ (i 0).val < 256 * ((i 0).val / 256) + 256; omega
  · show 256 * ((i 1).val / 256) ≤ (i 1).val ∧ (i 1).val < 256 * ((i 1).val / 256) + 256; omega

/-- The positions of a device's ring walk are the slices, in another order; so with the chunks. -/
def slE (h : Fin 2) : Fin 8 ≃ Fin 8 := Equiv.ofBijective (sl h c) (Finite.injective_iff_bijective.mp (sl_inj h c))
def ckE (h : Fin 2) : Fin 4 ≃ Fin 4 := Equiv.ofBijective (ck h c) (Finite.injective_iff_bijective.mp (ck_inj h c))

theorem slices_of (G : Cont F) : (owns (c : Thread nD τ) b q (flat G) : sProp 𝕄)
    = iprop((bigSep Finset.univ fun t => box c b q (sliceAt 0 (sl 0 c t)) G) ∗ bigSep Finset.univ fun t => box c b q (sliceAt 1 (sl 1 c t)) G) := by
  have e : (owns (c : Thread nD τ) b q (flat G) : sProp 𝕄) = bigSep Finset.univ fun x => owns (c : Thread nD τ) (b.slice (sliceRect x) fun _ => rfl) q
      (fun j => flat G ((sliceRect x).emb j)) :=
    BI.equiv_iff.mp ⟨owns_rects (c : Thread nD τ) b q sliceRect (fun _ _ => rfl) slice_disj slice_cover (flat G),
      owns_of_rects (c : Thread nD τ) b q sliceRect (fun _ _ => rfl) slice_disj slice_cover (flat G)⟩
  rw [e, bigSep_univ_prod, bigSep_fin_two, bigSep_univ_equiv (slE c 0) fun s => owns (c : Thread nD τ) (b.slice (sliceRect (0, s)) _) q _,
    bigSep_univ_equiv (slE c 1) fun s => owns (c : Thread nD τ) (b.slice (sliceRect (1, s)) _) q _]
  simp only [flat_emb]
  rfl

variable (h : Fin 2) (s : Fin 8)

/-- A chunk within its slice. -/
abbrev inRect (k : Fin 4) : Rect (SB 256) := Rect.unit (s := SB 256) ![64 * k.val, 0] (SB 64).size (by
  intro a; fin_cases a
  · show 64 * k.val + 64 ≤ 256; omega
  · show 0 + 256 ≤ 256; omega)

theorem in_disj (x y : Fin 4) (h : x ≠ y) : Disjoint (inRect x).set (inRect y).set := by
  have : x.val ≠ y.val := fun e' => h (Fin.ext e')
  refine Rect.disjoint_of_axis _ _ (0 : Fin 2) fun j₁ a j₂ b => ?_
  have a' : j₁ < 64 := a
  have b' : j₂ < 64 := b
  show 64 * x.val + 1 * j₁ ≠ 64 * y.val + 1 * j₂
  omega
theorem in_cover : (Finset.univ : Finset (Fin 4)).biUnion (fun x => (inRect x).set) = Finset.univ := by
  refine Finset.eq_univ_iff_forall.mpr fun i => ?_
  have h0 : (i 0).val < 256 := (i 0).isLt
  have h1 : (i 1).val < 256 := (i 1).isLt
  refine Finset.mem_biUnion.mpr ⟨⟨(i 0).val / 64, by omega⟩, Finset.mem_univ _, ?_⟩
  refine Rect.mem_set_unit.mpr fun a => ?_
  fin_cases a
  · show 64 * ((i 0).val / 64) ≤ (i 0).val ∧ (i 0).val < 64 * ((i 0).val / 64) + 64; omega
  · show 0 ≤ (i 1).val ∧ (i 1).val < 0 + 256; omega

theorem in_emb (k : Fin 4) (j : (SB 64).Idx) : (sliceAt h s).rect.emb ((inRect k).emb j) = (chunkAt h s k).rect.emb j := by
  funext a
  apply Fin.ext
  fin_cases a
  · show 256 * s.val + 1 * (64 * k.val + 1 * (j 0).val) = (256 * s.val + 64 * k.val) + 1 * (j 0).val; omega
  · show 256 * h.val + 1 * (0 + 1 * (j 1).val) = 256 * h.val + 1 * (j 1).val; omega

theorem chunk_same (k : Fin 4) (X : (SB 64).Idx → Elt F .f32) :
    (owns (c : Thread nD τ) (((sliceAt h s).of b).slice (inRect k) fun _ => rfl) q X : sProp 𝕄) = owns (c : Thread nD τ) ((chunkAt h s k).of b) q X := by
  have hemb : ((b.view.slice (sliceAt h s).rect).slice (inRect k)).emb = (b.view.slice (chunkAt h s k).rect).emb := by
    ext j : 1; exact congrArg b.view.emb (in_emb h s k j)
  have hset : (((sliceAt h s).of b).slice (inRect k) fun _ => rfl).view.set = ((chunkAt h s k).of b).view.set := by
    show Finset.map _ _ = Finset.map _ _
    exact congrArg (fun e => Finset.map e Finset.univ) hemb
  have hread : ∀ f : b.view.ty.Contents (Elt F), (((sliceAt h s).of b).slice (inRect k) fun _ => rfl).view.read (Elt F) f = ((chunkAt h s k).of b).view.read (Elt F) f := by
    intro f; funext j
    show b.view.read (Elt F) f ((sliceAt h s).rect.emb ((inRect k).emb j)) = b.view.read (Elt F) f ((chunkAt h s k).rect.emb j)
    rw [in_emb]
  unfold owns
  rw [hset]
  refine eqv ?_ ?_
  · iintro ⟨%f, %hf, H⟩; iexists f; isplitr; · ipureintro; exact (hread f).symm.trans hf
    iexact H
  · iintro ⟨%f, %hf, H⟩; iexists f; isplitr; · ipureintro; exact (hread f).trans hf
    iexact H

theorem chunks_of (G : Cont F) : (box c b q (sliceAt h s) G : sProp 𝕄) = bigSep Finset.univ fun k => box c b q (chunkAt h s (ck h c k)) G := by
  have e : (box c b q (sliceAt h s) G : sProp 𝕄) = bigSep Finset.univ fun k => owns (c : Thread nD τ) (((sliceAt h s).of b).slice (inRect k) fun _ => rfl) q
      (fun j => blk G (sliceAt h s) ((inRect k).emb j)) :=
    BI.equiv_iff.mp ⟨owns_rects (c : Thread nD τ) ((sliceAt h s).of b) q inRect (fun _ _ => rfl) in_disj in_cover (blk G (sliceAt h s)),
      owns_of_rects (c : Thread nD τ) ((sliceAt h s).of b) q inRect (fun _ _ => rfl) in_disj in_cover (blk G (sliceAt h s))⟩
  rw [e, bigSep_univ_equiv (ckE c h)]
  refine bigSep_congr fun k _ => ?_
  rw [chunk_same]
  show owns _ _ _ _ = owns _ _ _ _
  congr 1
  simp only [← flat_emb]
  funext j
  exact congrArg (flat G) (in_emb h s (ck h c k) j)
end Boxes

/-! ## Landing buffers -/

section Slots
variable {n R : ℕ} (c : Dev nD) (b : Memref sig .tc .vmem (SK n R) .f32)

theorem slot_disj (x y : Fin n) (h : x ≠ y) : Disjoint (slotRect n R x).set (slotRect n R y).set := by
  have : x.val ≠ y.val := fun e' => h (Fin.ext e')
  refine Rect.disjoint_of_axis _ _ (0 : Fin 3) fun j₁ a j₂ b => ?_
  have a' : j₁ < 1 := a
  have b' : j₂ < 1 := b
  show x.val + 1 * j₁ ≠ y.val + 1 * j₂
  omega
theorem slot_cover : (Finset.univ : Finset (Fin n)).biUnion (fun x => (slotRect n R x).set) = Finset.univ := by
  refine Finset.eq_univ_iff_forall.mpr fun i => ?_
  have h0 : (i 0).val < n := (i 0).isLt
  have h1 : (i 1).val < R := (i 1).isLt
  have h2 : (i 2).val < 256 := (i 2).isLt
  refine Finset.mem_biUnion.mpr ⟨⟨(i 0).val, h0⟩, Finset.mem_univ _, ?_⟩
  refine Rect.mem_set_unit.mpr fun a => ?_
  fin_cases a
  · show (i 0).val ≤ (i 0).val ∧ (i 0).val < (i 0).val + 1; omega
  · show 0 ≤ (i 1).val ∧ (i 1).val < 0 + R; omega
  · show 0 ≤ (i 2).val ∧ (i 2).val < 0 + 256; omega

/-- A landing buffer at any contents is its slots, each at any contents. -/
theorem slots_of : (iprop(∃ X, owns (c : Thread nD τ) b fullShare X) : sProp 𝕄) ⊣⊢ bigSep Finset.univ fun t => iprop(∃ Y, owns (c : Thread nD τ) (slot b t) fullShare Y) := by
  constructor
  · iintro ⟨%X, H⟩
    ihave H := (owns_rects (c : Thread nD τ) b fullShare (slotRect n R) (fun _ _ => rfl) slot_disj slot_cover X) $$ H
    iapply (big_mono (s := Finset.univ) (Φ := fun t => owns (c : Thread nD τ) (b.slice (slotRect n R t) fun _ => rfl) fullShare fun j => X ((slotRect n R t).emb j))
      (Ψ := fun t => iprop(∃ Y, owns (c : Thread nD τ) (slot b t) fullShare Y)) fun t => ?_) $$ H
    iintro H
    iexists (fun j => X ((slotRect n R t).emb (Shape.reshapeEquiv squeezes_slot.numel_eq j)))
    iapply (owns_squeeze c (b.slice (slotRect n R t) fun _ => rfl) squeezes_slot fullShare _).2
    simp only [Equiv.apply_symm_apply]
    iexact H
  · haveI : Nonempty ((SB R).Idx → Elt F .f32) := ⟨fun _ => Classical.choice ((inferInstance : ∀ e, Nonempty (Elt F e)) .f32)⟩
    refine BIBase.Entails.trans (bigSep_exists_pi Finset.univ fun t Y => owns (c : Thread nD τ) (slot b t) fullShare Y) ?_
    iintro ⟨%Y, H⟩
    iexists (fun i : (SK n R).Idx => unsq (Y ⟨(i 0).val, (i 0).isLt⟩) (Fin.cons (0 : Fin 1) fun a => i a.succ))
    iapply (BIBase.Entails.trans (big_mono fun t => ?_)
      (owns_of_rects (c : Thread nD τ) b fullShare (slotRect n R) (fun _ _ => rfl) slot_disj slot_cover _)) $$ H
    refine BIBase.Entails.trans (owns_squeeze c (b.slice (slotRect n R t) fun _ => rfl) squeezes_slot fullShare (Y t)).1 (BIBase.Entails.of_eq ?_)
    congr 1
    funext j
    have j0 : (j 0).val < 1 := (j 0).isLt
    have e0 : (⟨((slotRect n R t).emb j 0).val, ((slotRect n R t).emb j 0).isLt⟩ : Fin n) = t := Fin.ext (by show t.val + 1 * (j 0).val = t.val; omega)
    have e1 : (Fin.cons (0 : Fin 1) fun a => (slotRect n R t).emb j a.succ : (SL R).Idx) = j := by
      funext a
      refine Fin.cases ?_ (fun a => ?_) a
      · exact Fin.ext (by show 0 = (j 0).val; omega)
      · apply Fin.ext
        fin_cases a
        · show 0 + 1 * (j 1).val = (j 1).val; omega
        · show 0 + 1 * (j 2).val = (j 2).val; omega
    show unsq (Y t) j = unsq (Y _) _
    exact (congrArg₂ (fun t j => unsq (Y t) j) e0 e1).symm
end Slots

end Cert.AllReduce
-- ==== Proof.Which.lean ====
/-
# The four legs' facts

That each leg of the kernel consists of the copies named after it, and what its transfers carry.
-/
module

public import proofs.«01_k».proof.Proof.Parts

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Named
variable {n R : ℕ} (L : Leg n R) (h : Fin 2) (t : Fin n) {s r : DmaSem sig} {d : Dev nD}

theorem sd_named (hs : semAt (L.ss h) t = s) (hr : semAt (L.rs h) t = r) (hd : L.dev h t = d) :
    sd (F := F) L h t = Prog.lift (.enqueueDma (L.src h t) (.remote (Dev.tc d) (slot (L.buf h) t) (.dma s)) (.dma r)
      (View.wordExact_bits rfl) (View.wordExact_bits rfl) ⟨⟨rfl, Or.inl rfl⟩, trivial⟩) := by
  subst hs hr hd; rfl
theorem rv_named (hr : semAt (L.rs h) t = r) :
    rv (F := F) L h t = Prog.lift (.waitDma2 r (L.src h t) (slot (L.buf h) t) (View.wordExact_bits rfl) (View.wordExact_bits rfl)) := by
  subst hr; rfl
theorem ws_named (hs : semAt (L.ss h) t = s) :
    ws (F := F) L h t = Prog.lift (.waitDma2 s (slot (L.buf h) t) (L.src h t) (View.wordExact_bits rfl) (View.wordExact_bits rfl)) := by
  subst hs; rfl
end Named

section Four
variable (c : Dev nD)

theorem fits1 : Fits m ρ (leg1 c) c c1 0 fun h t => inn m ρ c (c1 h t) where
  place h t := by show 2 * t.val + h.val = _; omega
  sd h t := sd_named (leg1 c) h t (sem1 c h t).1 (sem1 c h t).2 (devs1 c h t)
  rv h t := rv_named (leg1 c) h t (sem1 c h t).2
  ws h t := ws_named (leg1 c) h t (sem1 c h t).1
  landed h t := rfl
theorem fits2 : Fits m ρ (leg2 c) c c2 14 fun h t => inn m ρ c (c2 h t) where
  place h t := by show 14 + 2 * t.val + h.val = _; omega
  sd h t := sd_named (leg2 c) h t (sem2 c h t).1 (sem2 c h t).2 (devs2 c h t)
  rv h t := rv_named (leg2 c) h t (sem2 c h t).2
  ws h t := ws_named (leg2 c) h t (sem2 c h t).1
  landed h t := rfl
theorem fits3 : Fits m ρ (leg3 c) c c3 20 fun h t => inn m ρ c (c3 h t) where
  place h t := by show 20 + 2 * t.val + h.val = _; omega
  sd h t := sd_named (leg3 c) h t (sem3 c h t).1 (sem3 c h t).2 (devs3 c h t)
  rv h t := rv_named (leg3 c) h t (sem3 c h t).2
  ws h t := ws_named (leg3 c) h t (sem3 c h t).1
  landed h t := rfl
theorem fits4 : Fits m ρ (leg4 c) c c4 26 fun h t => inn m ρ c (c4 h t) where
  place h t := by show 26 + 2 * t.val + h.val = _; omega
  sd h t := sd_named (leg4 c) h t (sem4 c h t).1 (sem4 c h t).2 (devs4 c h t)
  rv h t := rv_named (leg4 c) h t (sem4 c h t).2
  ws h t := ws_named (leg4 c) h t (sem4 c h t).1
  landed h t := rfl

/-! ## Where a leg's rectangles are -/

theorem upd1 (h : Fin 2) (t : Fin 7) : (leg1 c).upd h t = sliceAt h (sl h c t.succ) := by
  fin_cases h
  · exact At.ext' (off3_eq c t)
  · exact At.ext' (off4_add c t)
theorem upd2 (h : Fin 2) (t : Fin 3) : (leg2 c).upd h t = chunkAt h (mine c) (ck h c t.succ) := by
  fin_cases h
  · exact At.ext' (off7_eq c t)
  · exact At.ext' (off8_eq c t)
theorem upd3 (h : Fin 2) (t : Fin 3) : (leg3 c).upd h t = chunkAt h (mine c) (ck h c t.castSucc) := by
  fin_cases h
  · exact At.ext' (off11_eq c t)
  · exact At.ext' (off12_eq c t)
theorem upd4 (h : Fin 2) (t : Fin 7) : (leg4 c).upd h t = sliceAt h (sl h c t.castSucc) := by
  fin_cases h
  · exact At.ext' (off15_eq c t)
  · exact At.ext' (off4_put c t)

theorem src1_zero (h : Fin 2) : src c (c1 h 0) = (sliceAt h (sl h c 0)).of xM := by
  fin_cases h
  · exact congrArg (At.of · xM) (At.ext' (off1_eq c 0))
  · exact congrArg (At.of · xM) (At.ext' (off2_eq c 0))
theorem src1_succ (h : Fin 2) (t : Fin 6) : src c (c1 h t.succ) = (sliceAt h (sl h c t.succ.castSucc)).of oM := by
  fin_cases h
  · exact congrArg (At.of · oM) (At.ext' (off1_eq c t.succ))
  · exact congrArg (At.of · oM) (At.ext' (off2_eq c t.succ))
theorem src2 (h : Fin 2) (t : Fin 3) : src c (c2 h t) = (chunkAt h (mine c) (ck h c t.castSucc)).of oM := by
  fin_cases h
  · exact congrArg (At.of · oM) (At.ext' (off5_eq c t))
  · exact congrArg (At.of · oM) (At.ext' (off6_eq c t))
theorem src3_zero (h : Fin 2) : src c (c3 h 0) = (chunkAt h (mine c) (ck h c 3)).of oM := by
  fin_cases h
  · exact congrArg (At.of · oM) (At.ext' (off9_eq c))
  · exact congrArg (At.of · oM) (At.ext' (off10_eq c))
theorem src4_zero (h : Fin 2) : src c (c4 h 0) = (sliceAt h (mine c)).of oM := by
  rw [← sl_last h c]
  fin_cases h
  · exact congrArg (At.of · oM) (At.ext' (off13_eq c))
  · exact congrArg (At.of · oM) (At.ext' (off14_eq c))

/-! ## What a leg's transfers carry -/

theorem out1 (h : Fin 2) (t : Fin 7) : inn m ρ (tgt (c1 h t) c) (c1 h t) = blk (P1 m ρ h t.val c) (sliceAt h (sl h c t.castSucc)) := by
  show blk (P1 m ρ h t.val (nbr (opp (dir1 h)) (nbr (dir1 h) c))) (sliceAt h (sl h (nbr (dir1 h) c) t.succ)) = _
  rw [nbr_opp, ← sl_nbr]
theorem out2 (h : Fin 2) (t : Fin 3) : inn m ρ (tgt (c2 h t) c) (c2 h t) = blk (P2 m ρ h t.val c) (chunkAt h (mine c) (ck h c t.castSucc)) := by
  show blk (P2 m ρ h t.val (nbr (opp (dir2 h)) (nbr (dir2 h) c))) (chunkAt h (mine (nbr (dir2 h) c)) (ck h (nbr (dir2 h) c) t.succ)) = _
  rw [nbr_opp, ← ck_nbr, mine_nbr]
theorem out3_zero (h : Fin 2) : inn m ρ (tgt (c3 h 0) c) (c3 h 0) = blk (fin m ρ) (chunkAt h (mine c) (ck h c 3)) := by
  show blk (fin m ρ) (chunkAt h (mine (nbr (dir2 h) c)) (ck h (nbr (dir2 h) c) 0)) = _
  rw [← ck_wrap, mine_nbr]
theorem out3_succ (h : Fin 2) (t : Fin 2) : inn m ρ (tgt (c3 h t.succ) c) (c3 h t.succ) = inn m ρ c (c3 h t.castSucc) := by
  show blk (fin m ρ) (chunkAt h (mine (nbr (dir2 h) c)) (ck h (nbr (dir2 h) c) t.succ.castSucc)) = blk (fin m ρ) (chunkAt h (mine c) (ck h c t.castSucc.castSucc))
  rw [ck_nbr h t.castSucc c, mine_nbr, Fin.succ_castSucc]
theorem out4_zero (h : Fin 2) : inn m ρ (tgt (c4 h 0) c) (c4 h 0) = blk (fin m ρ) (sliceAt h (mine c)) := by
  show blk (fin m ρ) (sliceAt h (sl h (nbr (dir1 h) c) 0)) = _
  rw [← sl_wrap, sl_last]
theorem out4_succ (h : Fin 2) (t : Fin 6) : inn m ρ (tgt (c4 h t.succ) c) (c4 h t.succ) = inn m ρ c (c4 h t.castSucc) := by
  show blk (fin m ρ) (sliceAt h (sl h (nbr (dir1 h) c) t.succ.castSucc)) = blk (fin m ρ) (sliceAt h (sl h c t.castSucc.castSucc))
  rw [sl_nbr h t.castSucc c, Fin.succ_castSucc]

/-! ## What a leg takes and leaves, as rectangles of the two buffers -/

theorem pay1_zero (h : Fin 2) : payS m ρ (c1 h 0) c = box c xM fullShare.right (sliceAt h (sl h c 0)) (xG m ρ c) := by
  unfold payS; rw [out1]
  exact congrArg (fun s => owns (c : Thread nD τ) s fullShare.right _) (src1_zero c h)
theorem pay1_succ (h : Fin 2) (t : Fin 6) : payS m ρ (c1 h t.succ) c
    = box c oM fullShare (sliceAt h (sl h c t.succ.castSucc)) (P1 m ρ h (t.val + 1) c) := by
  unfold payS; rw [out1]
  exact congrArg (fun s => owns (c : Thread nD τ) s fullShare _) (src1_succ c h t)
theorem pay2 (h : Fin 2) (t : Fin 3) : payS m ρ (c2 h t) c = box c oM fullShare (chunkAt h (mine c) (ck h c t.castSucc)) (P2 m ρ h t.val c) := by
  unfold payS; rw [out2]
  exact congrArg (fun s => owns (c : Thread nD τ) s fullShare _) (src2 c h t)
theorem pay3_zero (h : Fin 2) : payS m ρ (c3 h 0) c = box c oM fullShare (chunkAt h (mine c) (ck h c 3)) (fin m ρ) := by
  unfold payS; rw [out3_zero]
  exact congrArg (fun s => owns (c : Thread nD τ) s fullShare _) (src3_zero c h)
theorem pay3_succ (h : Fin 2) (t : Fin 2) : payS m ρ (c3 h t.succ) c = slotAt (leg3 c) c fullShare.right (fun h t => inn m ρ c (c3 h t)) h t.castSucc := by
  unfold payS; rw [out3_succ]; rfl
theorem pay4_zero (h : Fin 2) : payS m ρ (c4 h 0) c = box c oM fullShare (sliceAt h (mine c)) (fin m ρ) := by
  unfold payS; rw [out4_zero]
  exact congrArg (fun s => owns (c : Thread nD τ) s fullShare _) (src4_zero c h)
theorem pay4_succ (h : Fin 2) (t : Fin 6) : payS m ρ (c4 h t.succ) c = slotAt (leg4 c) c fullShare.right (fun h t => inn m ρ c (c4 h t)) h t.castSucc := by
  unfold payS; rw [out4_succ]; rfl

/-- What the reducing legs add to. -/
abbrev X1 (h : Fin 2) (t : Fin 7) : (SB 256).Idx → Elt F .f32 := blk (xG m ρ c) (sliceAt h (sl h c t.succ))
abbrev X2 (h : Fin 2) (t : Fin 3) : (SB 64).Idx → Elt F .f32 := blk (P1 m ρ h 7 c) (chunkAt h (mine c) (ck h c t.succ))

theorem updX1 (h : Fin 2) (t : Fin 7) : updAt (leg1 c) c (X1 m ρ c) h t = box c oM fullShare (sliceAt h (sl h c t.succ)) (xG m ρ c) := by
  unfold updAt; rw [upd1]
theorem updV1 (h : Fin 2) (t : Fin 7) : updAt (leg1 c) c (added (X1 m ρ c) fun h t => inn m ρ c (c1 h t)) h t
    = box c oM fullShare (sliceAt h (sl h c t.succ)) (P1 m ρ h (t.val + 1) c) := by
  unfold updAt; rw [upd1]; rfl
theorem send1 (h : Fin 2) (t : Fin 6) : payS m ρ (c1 h t.succ) c = updAt (leg1 c) c (added (X1 m ρ c) fun h t => inn m ρ c (c1 h t)) h t.castSucc := by
  rw [updV1, pay1_succ, Fin.succ_castSucc]; rfl
theorem updX2 (h : Fin 2) (t : Fin 3) : updAt (leg2 c) c (X2 m ρ c) h t = box c oM fullShare (chunkAt h (mine c) (ck h c t.succ)) (P1 m ρ h 7 c) := by
  unfold updAt; rw [upd2]
theorem updV2 (h : Fin 2) (t : Fin 3) : updAt (leg2 c) c (added (X2 m ρ c) fun h t => inn m ρ c (c2 h t)) h t
    = box c oM fullShare (chunkAt h (mine c) (ck h c t.succ)) (P2 m ρ h (t.val + 1) c) := by
  unfold updAt; rw [upd2]; rfl
theorem send2 (h : Fin 2) (t : Fin 2) : payS m ρ (c2 h t.succ) c = updAt (leg2 c) c (added (X2 m ρ c) fun h t => inn m ρ c (c2 h t)) h t.castSucc := by
  rw [updV2, pay2, Fin.succ_castSucc]; rfl

/-- What the gathering legs overwrite: what the reducing legs left there. -/
abbrev X3 (h : Fin 2) (t : Fin 3) : (SB 64).Idx → Elt F .f32 := blk (P2 m ρ h t.val c) (chunkAt h (mine c) (ck h c t.castSucc))
abbrev X4 (h : Fin 2) (t : Fin 7) : (SB 256).Idx → Elt F .f32 := blk (P1 m ρ h t.val c) (sliceAt h (sl h c t.castSucc))

theorem updX3 (h : Fin 2) (t : Fin 3) : updAt (leg3 c) c (X3 m ρ c) h t = box c oM fullShare (chunkAt h (mine c) (ck h c t.castSucc)) (P2 m ρ h t.val c) := by
  unfold updAt; rw [upd3]
theorem updV3 (h : Fin 2) (t : Fin 3) : updAt (leg3 c) c (fun h t => inn m ρ c (c3 h t)) h t
    = box c oM fullShare (chunkAt h (mine c) (ck h c t.castSucc)) (fin m ρ) := by
  unfold updAt; rw [upd3]; rfl
theorem updX4 (h : Fin 2) (t : Fin 7) : updAt (leg4 c) c (X4 m ρ c) h t = box c oM fullShare (sliceAt h (sl h c t.castSucc)) (P1 m ρ h t.val c) := by
  unfold updAt; rw [upd4]
theorem updV4 (h : Fin 2) (t : Fin 7) : updAt (leg4 c) c (fun h t => inn m ρ c (c4 h t)) h t
    = box c oM fullShare (sliceAt h (sl h c t.castSucc)) (fin m ρ) := by
  unfold updAt; rw [upd4]; rfl

/-- The chunk a device finishes is at the total there. -/
theorem finished (h : Fin 2) : blk (P2 m ρ h 3 c) (chunkAt h (mine c) (ck h c 3)) = blk (fin m ρ) (chunkAt h (mine c) (ck h c 3)) := by
  funext j
  have h0 : (j 0).val < 64 := (j 0).isLt
  have h1 : (j 1).val < 256 := (j 1).isLt
  have hk := (ck h c 3).isLt
  have hm := (mine c).isLt
  have hh := h.isLt
  show P2 m ρ h 3 c (256 * (mine c).val + 64 * (ck h c 3).val + (j 0).val) (256 * h.val + (j 1).val)
    = P2 m ρ ⟨(256 * h.val + (j 1).val) / 256 % 2, _⟩ 3 (dv (⟨(256 * (mine c).val + 64 * (ck h c 3).val + (j 0).val) / 256 % 8, _⟩ - 1)
        (⟨(256 * (mine c).val + 64 * (ck h c 3).val + (j 0).val) / 64 % 4, _⟩ - 1)) (256 * (mine c).val + 64 * (ck h c 3).val + (j 0).val) (256 * h.val + (j 1).val)
  have e1 : (⟨(256 * h.val + (j 1).val) / 256 % 2, Nat.mod_lt _ (by decide)⟩ : Fin 2) = h := Fin.ext (by show _ / 256 % 2 = _; omega)
  have e2 : (⟨(256 * (mine c).val + 64 * (ck h c 3).val + (j 0).val) / 256 % 8, Nat.mod_lt _ (by decide)⟩ : Fin 8) = mine c := Fin.ext (by show _ / 256 % 8 = _; omega)
  have e3 : (⟨(256 * (mine c).val + 64 * (ck h c 3).val + (j 0).val) / 64 % 4, Nat.mod_lt _ (by decide)⟩ : Fin 4) = ck h c 3 := Fin.ext (by show _ / 64 % 4 = _; omega)
  have e4 : ∀ h c, dv (mine c - 1) (ck h c 3 - 1) = c := by decide +kernel
  rw [e1, e2, e3, e4]
end Four

end Cert.AllReduce
-- ==== Proof.Entry.lean ====
/-
# The entry handshake

Each device signals its four neighbours, handing over the landing slots whose copies come from there, and waits for four units.
-/
module

public import proofs.«01_k».proof.Proof.Which

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × (Unit ⊕ (Cp ⊕ Cp)) → ℕ) (c : Dev nD)

/-- The copies by direction. -/
theorem by_dir (Φ : Cp → sProp 𝕄) : bigSep Finset.univ Φ = bigSep Finset.univ fun e : Fin 4 => bigSep (Finset.univ.filter (dir · = e)) Φ := by
  have e : Finset.univ.image dir = (Finset.univ : Finset (Fin 4)) := by decide +kernel
  rw [bigSep_fiberwise Finset.univ dir Φ, e]

theorem big_four (Φ : Fin 4 → sProp 𝕄) : bigSep Finset.univ Φ = iprop(Φ 0 ∗ Φ 1 ∗ Φ 2 ∗ Φ 3 ∗ emp) := by
  rw [big_fin_first, big_fin_first, big_fin_first, big_fin_first, show (Finset.univ : Finset (Fin 0)) = ∅ from rfl, bigSep_empty]; rfl

/-- A device's own slots of one direction. -/
abbrev freeDir (e : Fin 4) : sProp 𝕄 := bigSep (Finset.univ.filter (dir · = e)) fun k => free (F := F) k c

theorem pay_opp (e : Fin 4) : barPay (F := F) (opp e) (nbr e c) = freeDir (F := F) c (opp e) := by
  unfold barPay; rw [nbr_opp]

/-- After the handshake: the slots that the device's own copies land in. -/
theorem got : (bigSep Finset.univ fun e => barPay (F := F) e c : sProp 𝕄) = bigSep Finset.univ fun k => free (F := F) k (tgt k c) := by
  rw [by_dir]
  refine bigSep_congr fun e _ => ?_
  unfold barPay
  exact bigSep_congr fun k hk => by rw [← (Finset.mem_filter.mp hk).2]

/-- A signal to the neighbour in direction `e`. -/
theorem step_sig (e : Fin 4) (d : Dev nD) (hd : d = nbr e c) (O₁ O : CellTallies nD τ sig Unit) (hO : O₁ = O + unit e c) (P : sProp 𝕄) :
    iprop((Know m ρ K ∗ ∃ W, owes (c : Thread nD τ) O₁ W) ∗ (dutyTok ER (barCell (nbr e c)) 0 (opp e) ∗ freeDir (F := F) c (opp e)) ∗ P)
      ⊢ WP c (semSignalWord d barS 1#32) iprop((Know m ρ K ∗ ∃ W, owes (c : Thread nD τ) O W) ∗ P) := by
  subst hd
  unfold WP semSignalWord
  iintro ⟨⟨#HK, ⟨%W, HO⟩⟩, ⟨Ht, Hf⟩, HP⟩
  iapply (Rounds.wp_signal 𝒱₀ ER (sch m ρ) (c : Thread nD τ) none (dst := (nbr e c : Thread nD τ)) (κ := K (nbr e c, .inl ()))
      (d := opp e) (by rw [duties_bar]; exact Finset.mem_univ _) ((amount_bar m ρ (nbr e c) (opp e)).trans (by decide)) () O hO) $$ [HO Ht Hf]
  · isplitr; · iapply (know_inv m ρ K (nbr e c, .inl ())); iexact HK
    isplitl [HO]; · iexact HO
    isplitl [Ht]; · iexact Ht
    isplitl [Hf]
    · rw [payload_bar, pay_opp]; iexact Hf
    iapply (know_reached m ρ K (nbr e c, .inl ())); iexact HK
  iintro HO
  rw [wp_ret]; imodintro
  isplitr [HP]
  · isplitr; · iexact HK
    iexists W; iexact HO
  iexact HP

/-- The wait for the four neighbours' units. -/
theorem step_four (P : sProp 𝕄) :
    iprop((Know m ρ K ∗ ∃ W, owes (c : Thread nD τ) (owed c 0) W) ∗ (cred (tallyAt (barCell c) () 4) ∗ atPos ER (barCell c) 0 ∅ 0) ∗ P)
      ⊢ WP c (semWaitWord barS 4#32) iprop((Know m ρ K ∗ ∃ W, owes (c : Thread nD τ) (owed c 0) W) ∗ P ∗ semVal (barCell c) 0
          ∗ bigSep Finset.univ fun k => free (F := F) k (tgt k c)) := by
  unfold WP semWaitWord
  iintro ⟨⟨#HK, ⟨%W, HO⟩⟩, ⟨Hc, Hat⟩, HP⟩
  ihave #HM := (BIBase.Entails.trans (@know_lev F _ m ρ K) (mayWait_bar c)) $$ HK
  iapply (Rounds.wp_wait_rest_token 𝒱₀ ER (sch m ρ) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (know_inv m ρ K (c, .inl ())); iexact HK
    isplitl [Hc]; · iexact Hc
    isplitl [HO]; · iexact HO
    isplitr; · iexact HM
    iexact Hat
  iintro ⟨HO, Hat, -, Hpay⟩
  ihave Hp := (Entails.of_eq ((rest_bar m ρ c).trans (got c))) $$ Hpay
  imod (Rounds.cell_close ER (sch m ρ) (Set.mem_univ (K (c, .inl ()))) (fun h => h) (R := 0 + 1) (duties_later m ρ (barCell c))) $$ [Hat] with Hv
  · isplitr; · iapply (know_inv m ρ K (c, .inl ())); iexact HK
    iexact Hat
  rw [wp_ret]; imodintro
  isplitl [HO]
  · isplitr; · iexact HK
    iexists _; iexact HO
  isplitl [HP]; · iexact HP
  isplitl [Hv]; · iexact Hv
  iexact Hp

/-- What a device starts with of the protocol, its landing slots apart. -/
def Start : sProp 𝕄 :=
  iprop((bigSep Finset.univ fun e : Fin 4 => dutyTok ER (barCell (nbr e c)) 0 (opp e))
    ∗ (cred (tallyAt (barCell c) () 4) ∗ atPos ER (barCell c) 0 ∅ 0)
    ∗ (bigSep Finset.univ fun k => dutyTok ER (sCell c k) 0 0) ∗ (bigSep Finset.univ fun k => dutyTok ER (rCell (tgt k c) k) 0 0)
    ∗ (bigSep Finset.univ (toRecv (F := F) c)) ∗ (bigSep Finset.univ fun k => atPos ER (sCell c k) 0 ∅ 0))

theorem entry_spec :
    iprop((Know m ρ K ∗ ∃ W, owes (c : Thread nD τ) (O₀ c) W) ∗ Start (F := F) c ∗ bigSep Finset.univ fun k => free (F := F) k c)
      ⊢ WP c (entry c) iprop(St m ρ K c 0 0 0 ∗ semVal (barCell c) 0) := by
  have hopp : (bigSep Finset.univ fun k => free (F := F) k c : sProp 𝕄) = bigSep Finset.univ fun e => freeDir (F := F) c (opp e) := by
    rw [by_dir]
    exact (bigSep_univ_equiv (Equiv.ofBijective opp ⟨Function.LeftInverse.injective opp_opp, Function.RightInverse.surjective opp_opp⟩)
      (fun e => freeDir (F := F) c e))
  unfold Start entry
  rw [hopp, big_four, big_four]
  refine BIBase.Entails.trans (Q := iprop((Know m ρ K ∗ ∃ W, owes (c : Thread nD τ) (O₀ c) W)
    ∗ (dutyTok ER (barCell (nbr 0 c)) 0 (opp 0) ∗ freeDir (F := F) c (opp 0)) ∗ (dutyTok ER (barCell (nbr 1 c)) 0 (opp 1) ∗ freeDir (F := F) c (opp 1))
    ∗ (dutyTok ER (barCell (nbr 2 c)) 0 (opp 2) ∗ freeDir (F := F) c (opp 2)) ∗ (dutyTok ER (barCell (nbr 3 c)) 0 (opp 3) ∗ freeDir (F := F) c (opp 3))
    ∗ (cred (tallyAt (barCell c) () 4) ∗ atPos ER (barCell c) 0 ∅ 0)
    ∗ (bigSep Finset.univ fun k => dutyTok ER (sCell c k) 0 0) ∗ (bigSep Finset.univ fun k => dutyTok ER (rCell (tgt k c) k) 0 0)
    ∗ (bigSep Finset.univ (toRecv (F := F) c)) ∗ (bigSep Finset.univ fun k => atPos ER (sCell c k) 0 ∅ 0))) ?_ ?_
  · iintro ⟨HA, ⟨⟨T0, T1, T2, T3, -⟩, HB, HR⟩, F0, F1, F2, F3, -⟩
    isplitl [HA]; · iexact HA
    isplitl [T0 F0]; · isplitl [T0] <;> iassumption
    isplitl [T1 F1]; · isplitl [T1] <;> iassumption
    isplitl [T2 F2]; · isplitl [T2] <;> iassumption
    isplitl [T3 F3]; · isplitl [T3] <;> iassumption
    isplitl [HB]; · iexact HB
    iexact HR
  refine WP_seq (step_sig m ρ K c 0 _ (dev1_eq c) _ (owed c 0 + unit 3 c + unit 2 c + unit 1 c) rfl _) ?_
  refine WP_seq (step_sig m ρ K c 1 _ (dev2_eq c) _ (owed c 0 + unit 3 c + unit 2 c) rfl _) ?_
  refine WP_seq (step_sig m ρ K c 2 _ (dev3_eq c) _ (owed c 0 + unit 3 c) rfl _) ?_
  refine WP_seq (step_sig m ρ K c 3 _ (dev4_eq c) _ (owed c 0) rfl _) ?_
  refine WP_conseq .rfl (step_four m ρ K c _) ?_
  unfold St
  rw [rng_all, rng_empty, bigSep_empty, bigSep_empty, bigSep_empty,
    show (bigSep Finset.univ (toSend (F := F) c) : sProp 𝕄) = iprop((bigSep Finset.univ fun k => dutyTok ER (sCell c k) 0 0)
      ∗ (bigSep Finset.univ fun k => dutyTok ER (rCell (tgt k c) k) 0 0) ∗ bigSep Finset.univ fun k => free (F := F) k (tgt k c)) from by
        unfold toSend; rw [bigSep_sep', bigSep_sep']]
  iintro ⟨⟨HK, HO⟩, ⟨S1, S2, HR, HP⟩, Hv, Hf⟩
  isplitr [Hv]
  · isplitl [HK]; · iexact HK
    isplitl [HO]; · iexact HO
    isplitl [S1 S2 Hf]
    · isplitl [S1]; · iexact S1
      isplitl [S2]; · iexact S2
      iexact Hf
    isplitl [HR]; · iexact HR
    isplitr; · iempintro
    isplitr; · iempintro
    isplitl [HP]; · iexact HP
    iempintro
  iexact Hv

end Cert.AllReduce
-- ==== Proof.Body.lean ====
/-
# The body

A device's whole run: the handshake, the copy of its input, and the four legs, from whole buffers to whole buffers.
-/
module

public import proofs.«01_k».proof.Proof.Entry

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × (Unit ⊕ (Cp ⊕ Cp)) → ℕ) (c : Dev nD)

/-! ## The copy of the input -/

abbrev allRect : Rect S2048x512 := Rect.unit (s := S2048x512) ![0, 0] S2048x512.size inb_S2048x512_S2048x512_0_0

theorem all_emb (j : S2048x512.Idx) : allRect.emb j = j := by
  funext a; apply Fin.ext; fin_cases a
  · show 0 + 1 * (j 0).val = (j 0).val; omega
  · show 0 + 1 * (j 1).val = (j 1).val; omega

theorem owns_all (b : Memref sig .tc .vmem S2048x512 .f32) (q : PosShare TreeShare) (X : S2048x512.Idx → Elt F .f32) :
    (owns (c : Thread nD τ) b q X : sProp 𝕄) = owns (c : Thread nD τ) (b.slice allRect fun _ => rfl) q X := by
  have hemb : (b.view.slice allRect).emb = b.view.emb := by
    ext j : 1; exact congrArg b.view.emb (all_emb j)
  have hset : (b.slice allRect fun _ => rfl).view.set = b.view.set := congrArg (fun e => Finset.map e Finset.univ) hemb
  have hread : ∀ f : b.view.ty.Contents (Elt F), (b.slice allRect fun _ => rfl).view.read (Elt F) f = b.view.read (Elt F) f := by
    intro f; funext j
    show b.view.read (Elt F) f (allRect.emb j) = _
    rw [all_emb]
  unfold owns
  rw [hset]
  refine eqv ?_ ?_
  · iintro ⟨%f, %hf, H⟩; iexists f; isplitr; · ipureintro; exact (hread f).trans hf
    iexact H
  · iintro ⟨%f, %hf, H⟩; iexists f; isplitr; · ipureintro; exact (hread f).symm.trans hf
    iexact H

theorem pay1_eq (X : S2048x512.Idx → Elt F .f32) : k0_pay1 X = X := by
  funext j
  exact congrArg X (Shape.reshapeEquiv_self _ j)

theorem copyIn_spec (q : PosShare TreeShare) (X : S2048x512.Idx → Elt F .f32) :
    iprop(owns (c : Thread nD τ) xM q X ∗ ∃ Y, owns (c : Thread nD τ) oM fullShare Y) ⊢ WP c copyIn iprop(owns (c : Thread nD τ) oM fullShare X ∗ owns (c : Thread nD τ) xM q X) := by
  unfold copyIn
  simp only [owns_all c xM, owns_all c oM]
  refine load_piece c xM allRect (fun _ => rfl) q X _ _ _ _ ?_
  refine BIBase.Entails.trans (Q := iprop(∃ Y, owns (c : Thread nD τ) (oM.slice allRect fun _ => rfl) fullShare Y ∗ owns (c : Thread nD τ) (xM.slice allRect fun _ => rfl) q X)) ?_ ?_
  · iintro ⟨H, ⟨%Y, H'⟩⟩; iexists Y; isplitl [H'] <;> iassumption
  refine exists_elim fun Y => ?_
  refine load_piece c oM allRect (fun _ => rfl) fullShare Y _ _ _ _ ?_
  refine WP_frame _ ?_
  refine WP_conseq .rfl (store_piece c oM allRect (fun _ => rfl) Y (k0_pay1 X) (View.stores_vmem_bits_univ h_S2048x512 rfl) (.inl rfl)) ?_
  rw [pay1_eq X]

end Cert.AllReduce
-- ==== Proof.Whole.lean ====
/-
# The whole body

The four legs put together: what each takes of the two buffers and the landing slots, and what it leaves for the next.
-/
module

public import proofs.«01_k».proof.Proof.Body

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × (Unit ⊕ (Cp ⊕ Cp)) → ℕ) (c : Dev nD)

/-! ## Both halves at once -/

/-- The same for either half. -/
abbrev both (Φ : Fin 2 → sProp 𝕄) : sProp 𝕄 := iprop(Φ 0 ∗ Φ 1)

theorem both_congr {Φ Ψ : Fin 2 → sProp 𝕄} (h : ∀ i, Φ i = Ψ i) : both Φ = both Ψ := by rw [funext h]

theorem both_big {n : ℕ} (Φ : Fin 2 → Fin n → sProp 𝕄) :
    (bigSep Finset.univ fun t => both fun h => Φ h t) = both fun h => bigSep Finset.univ fun t => Φ h t := bigSep_sep' _ _ _

theorem both_sep (Φ Ψ : Fin 2 → sProp 𝕄) : both (fun h => iprop(Φ h ∗ Ψ h)) ⊣⊢ iprop(both Φ ∗ both Ψ) := by
  constructor
  · iintro ⟨⟨A, B⟩, A', B'⟩
    isplitl [A A']; · isplitl [A] <;> iassumption
    isplitl [B] <;> iassumption
  · iintro ⟨⟨A, A'⟩, B, B'⟩
    isplitl [A B]; · isplitl [A] <;> iassumption
    isplitl [A'] <;> iassumption

theorem both_first {n : ℕ} (Φ : Fin 2 → Fin (n + 1) → sProp 𝕄) :
    (both fun h => bigSep Finset.univ fun t => Φ h t) = iprop((both fun h => Φ h 0) ∗ bigSep Finset.univ fun t : Fin n => both fun h => Φ h t.succ) := by
  rw [← both_big, big_fin_first]
theorem both_last {n : ℕ} (Φ : Fin 2 → Fin (n + 1) → sProp 𝕄) :
    (both fun h => bigSep Finset.univ fun t => Φ h t) = iprop((both fun h => Φ h (Fin.last n)) ∗ bigSep Finset.univ fun t : Fin n => both fun h => Φ h t.castSucc) := by
  rw [← both_big, big_fin_last]

section Open
variable (b : Memref sig .tc .vmem S2048x512 .f32) (q : PosShare TreeShare) (G : Cont F)

theorem open8 : (owns (c : Thread nD τ) b q (flat G) : sProp 𝕄)
    = iprop((both fun h => box c b q (sliceAt h (sl h c 0)) G) ∗ bigSep Finset.univ fun t : Fin 7 => both fun h => box c b q (sliceAt h (sl h c t.succ)) G) := by
  rw [slices_of]; exact both_first fun h t => box c b q (sliceAt h (sl h c t)) G
theorem close8 : (owns (c : Thread nD τ) b q (flat G) : sProp 𝕄)
    = iprop((both fun h => box c b q (sliceAt h (mine c)) G) ∗ bigSep Finset.univ fun t : Fin 7 => both fun h => box c b q (sliceAt h (sl h c t.castSucc)) G) := by
  rw [slices_of, both_congr fun h => by rw [← sl_last h c]]
  exact both_last fun h t => box c b q (sliceAt h (sl h c t)) G
theorem open4 (G : Fin 2 → Cont F) : (both fun h => box c b q (sliceAt h (mine c)) (G h))
    = iprop((both fun h => box c b q (chunkAt h (mine c) (ck h c 0)) (G h)) ∗ bigSep Finset.univ fun t : Fin 3 => both fun h => box c b q (chunkAt h (mine c) (ck h c t.succ)) (G h)) := by
  rw [both_congr fun h => chunks_of c b q h (mine c) (G h)]
  exact both_first fun h k => box c b q (chunkAt h (mine c) (ck h c k)) (G h)
theorem close4 (G : Fin 2 → Cont F) : (both fun h => box c b q (sliceAt h (mine c)) (G h))
    = iprop((both fun h => box c b q (chunkAt h (mine c) (ck h c 3)) (G h)) ∗ bigSep Finset.univ fun t : Fin 3 => both fun h => box c b q (chunkAt h (mine c) (ck h c t.castSucc)) (G h)) := by
  rw [both_congr fun h => chunks_of c b q h (mine c) (G h)]
  exact both_last fun h k => box c b q (chunkAt h (mine c) (ck h c k)) (G h)
end Open

/-! ## The legs -/

/-- A leg's landing slots, as it leaves them. -/
abbrev used {n R : ℕ} (L : Leg (n + 1) R) (In : Fin 2 → Fin (n + 1) → (SB R).Idx → Elt F .f32) : sProp 𝕄 :=
  bigSep Finset.univ fun t => both fun h => slotAt L c fullShare In h t

abbrev used1 : sProp 𝕄 := used c (leg1 c) fun h t => inn m ρ c (c1 h t)
abbrev used2 : sProp 𝕄 := used c (leg2 c) fun h t => inn m ρ c (c2 h t)
abbrev used3 : sProp 𝕄 := used c (leg3 c) fun h t => inn m ρ c (c3 h t)
abbrev used4 : sProp 𝕄 := used c (leg4 c) fun h t => inn m ρ c (c4 h t)

/-- What the reducing legs leave for the gathering ones to overwrite. -/
abbrev stale3 : sProp 𝕄 := bigSep Finset.univ fun t => both fun h => updAt (leg3 c) c (X3 m ρ c) h t
abbrev stale4 : sProp 𝕄 := bigSep Finset.univ fun t => both fun h => updAt (leg4 c) c (X4 m ρ c) h t

theorem red1 : iprop(St m ρ K c 2 0 0 ∗ owns (c : Thread nD τ) oM fullShare (flat (xG m ρ c)))
    ⊢ WP c (redLeg (leg1 c) h_S256x256 h_S1x256x256) iprop((St m ρ K c 14 14 14 ∗ both fun h => box c oM fullShare (sliceAt h (mine c)) (P1 m ρ h 7 c))
      ∗ stale4 m ρ c ∗ (both fun h => box c xM fullShare.right (sliceAt h (sl h c 0)) (xG m ρ c)) ∗ used1 m ρ c) := by
  have e4 : stale4 m ρ c = iprop((both fun h => box c oM fullShare (sliceAt h (sl h c 0)) (xG m ρ c)) ∗ bigSep Finset.univ fun t : Fin 6 => both fun h => payS m ρ (c1 h t.succ) c) := by
    unfold stale4
    rw [big_fin_first]
    refine congrArg₂ _ (both_congr fun h => updX4 m ρ c h 0) (bigSep_congr fun t _ => both_congr fun h => ?_)
    rw [updX4, pay1_succ]; rfl
  have eX : (bigSep Finset.univ fun t => both fun h => updAt (leg1 c) c (X1 m ρ c) h t : sProp 𝕄)
      = bigSep Finset.univ fun t : Fin 7 => both fun h => box c oM fullShare (sliceAt h (sl h c t.succ)) (xG m ρ c) :=
    bigSep_congr fun t _ => both_congr fun h => updX1 m ρ c h t
  have eP : (bigSep Finset.univ fun t => both fun h => payS m ρ (c1 h t) c : sProp 𝕄)
      = iprop((both fun h => box c xM fullShare.right (sliceAt h (sl h c 0)) (xG m ρ c)) ∗ bigSep Finset.univ fun t : Fin 6 => both fun h => payS m ρ (c1 h t.succ) c) := by
    rw [big_fin_first, both_congr fun h => pay1_zero m ρ c h]
  have eV : (both fun h => updAt (leg1 c) c (added (X1 m ρ c) fun h t => inn m ρ c (c1 h t)) h (Fin.last 6))
      = both fun h => box c oM fullShare (sliceAt h (mine c)) (P1 m ρ h 7 c) :=
    both_congr fun h => by rw [updV1, ← sl_last h c]; rfl
  have main := WP_frame (both fun h => box c oM fullShare (sliceAt h (sl h c 0)) (xG m ρ c))
    (leg_red m ρ K (fits1 m ρ c) h_S256x256 h_S1x256x256 (X1 m ρ c) (send1 m ρ c))
  rw [open8]
  refine WP_conseq ?_ main ?_
  · iintro ⟨HS, H0, HX⟩
    isplitr [H0]
    · isplitl [HS]; · iexact HS
      iapply (Entails.of_eq eX.symm); iexact HX
    iexact H0
  · rw [e4]
    iintro ⟨⟨HS, HU, HP, HV⟩, H0⟩
    ihave HP := (Entails.of_eq eP) $$ HP
    icases HP with ⟨Hx, HP⟩
    isplitl [HS HV]
    · isplitl [HS]; · iexact HS
      iapply (Entails.of_eq eV); iexact HV
    isplitl [H0 HP]; · isplitl [H0] <;> iassumption
    isplitl [Hx]; · iexact Hx
    iexact HU

/-- The second leg: the device's own slice, chunk by chunk. -/
theorem red2 : iprop((St m ρ K c 14 14 14 ∗ both fun h => box c oM fullShare (sliceAt h (mine c)) (P1 m ρ h 7 c)) ∗ stale4 m ρ c)
    ⊢ WP c (start (leg2 c) >>= fun _ => redLeg (leg2 c) h_S64x256 h_S1x64x256)
      iprop((St m ρ K c 20 20 20 ∗ both fun h => payS m ρ (c3 h 0) c) ∗ stale3 m ρ c ∗ used2 m ρ c ∗ stale4 m ρ c) := by
  have e0 : (both fun h => box c oM fullShare (sliceAt h (mine c)) (P1 m ρ h 7 c))
      = iprop((both fun h => payS m ρ (c2 h 0) c) ∗ bigSep Finset.univ fun t => both fun h => updAt (leg2 c) c (X2 m ρ c) h t) := by
    rw [open4]
    refine congrArg₂ _ (both_congr fun h => ?_) (bigSep_congr fun t _ => both_congr fun h => (updX2 m ρ c h t).symm)
    rw [pay2]; rfl
  have e3 : stale3 m ρ c = bigSep Finset.univ fun t => both fun h => payS m ρ (c2 h t) c :=
    bigSep_congr fun t _ => both_congr fun h => by rw [updX3, pay2]
  have eV : (both fun h => updAt (leg2 c) c (added (X2 m ρ c) fun h t => inn m ρ c (c2 h t)) h (Fin.last 2)) = both fun h => payS m ρ (c3 h 0) c :=
    both_congr fun h => by
      rw [updV2, pay3_zero]; unfold box; rw [← finished]; rfl
  refine WP_seq (WP_conseq ?_ (WP_frame iprop((bigSep Finset.univ fun t => both fun h => updAt (leg2 c) c (X2 m ρ c) h t) ∗ stale4 m ρ c)
    (leg_start m ρ K (fits2 m ρ c))) .rfl) ?_
  · rw [e0]
    iintro ⟨⟨HS, Hp, Hu⟩, H4⟩
    isplitl [HS Hp]; · isplitl [HS] <;> iassumption
    isplitl [Hu] <;> iassumption
  · refine WP_conseq ?_ (WP_frame (stale4 m ρ c) (leg_red m ρ K (fits2 m ρ c) h_S64x256 h_S1x64x256 (X2 m ρ c) (send2 m ρ c))) ?_
    · iintro ⟨HS, Hu, H4⟩
      isplitl [HS Hu]; · isplitl [HS] <;> iassumption
      iexact H4
    · rw [e3]
      iintro ⟨⟨HS, HU, HP, HV⟩, H4⟩
      isplitl [HS HV]
      · isplitl [HS]; · iexact HS
        iapply (Entails.of_eq eV); iexact HV
      isplitl [HP]; · iexact HP
      isplitl [HU] <;> iassumption

/-- The third leg: the finished chunks go round. -/
theorem gat3 (P : sProp 𝕄) : iprop((St m ρ K c 20 20 20 ∗ both fun h => payS m ρ (c3 h 0) c) ∗ stale3 m ρ c ∗ P)
    ⊢ WP c (start (leg3 c) >>= fun _ => gatLeg (leg3 c) h_S64x256 h_S1x64x256)
      iprop((St m ρ K c 26 26 26 ∗ both fun h => payS m ρ (c4 h 0) c) ∗ used3 m ρ c ∗ P) := by
  have e0 : (both fun h => payS m ρ (c4 h 0) c)
      = iprop((both fun h => payS m ρ (c3 h 0) c) ∗ bigSep Finset.univ fun t => both fun h => updAt (leg3 c) c (fun h t => inn m ρ c (c3 h t)) h t) := by
    rw [both_congr fun h => pay4_zero m ρ c h, close4]
    exact congrArg₂ _ (both_congr fun h => (pay3_zero m ρ c h).symm) (bigSep_congr fun t _ => both_congr fun h => (updV3 m ρ c h t).symm)
  refine WP_seq (WP_conseq ?_ (WP_frame iprop(stale3 m ρ c ∗ P) (leg_start m ρ K (fits3 m ρ c))) .rfl) ?_
  · iintro ⟨⟨HS, Hp⟩, H⟩
    isplitr [H]; · isplitl [HS] <;> iassumption
    iexact H
  · refine WP_conseq ?_ (WP_frame P (leg_gat m ρ K (fits3 m ρ c) h_S64x256 h_S1x64x256 (X3 m ρ c) (pay3_succ m ρ c))) ?_
    · iintro ⟨HS, Hu, H4⟩
      isplitl [HS Hu]; · isplitl [HS] <;> iassumption
      iexact H4
    · rw [e0]
      iintro ⟨⟨HS, HU, HV, HP⟩, H4⟩
      isplitl [HS HV HP]
      · isplitl [HS]; · iexact HS
        isplitl [HP] <;> iassumption
      isplitl [HU] <;> iassumption

/-- The fourth leg: the finished slices go round. -/
theorem gat4 (P : sProp 𝕄) : iprop((St m ρ K c 26 26 26 ∗ both fun h => payS m ρ (c4 h 0) c) ∗ stale4 m ρ c ∗ P)
    ⊢ WP c (start (leg4 c) >>= fun _ => gatLeg (leg4 c) h_S256x256 h_S1x256x256)
      iprop((St m ρ K c 40 40 40 ∗ owns (c : Thread nD τ) oM fullShare (flat (fin m ρ))) ∗ used4 m ρ c ∗ P) := by
  have e0 : (owns (c : Thread nD τ) oM fullShare (flat (fin m ρ)) : sProp 𝕄)
      = iprop((both fun h => payS m ρ (c4 h 0) c) ∗ bigSep Finset.univ fun t => both fun h => updAt (leg4 c) c (fun h t => inn m ρ c (c4 h t)) h t) := by
    rw [close8]
    exact congrArg₂ _ (both_congr fun h => (pay4_zero m ρ c h).symm) (bigSep_congr fun t _ => both_congr fun h => (updV4 m ρ c h t).symm)
  refine WP_seq (WP_conseq ?_ (WP_frame iprop(stale4 m ρ c ∗ P) (leg_start m ρ K (fits4 m ρ c))) .rfl) ?_
  · iintro ⟨⟨HS, Hp⟩, H⟩
    isplitr [H]; · isplitl [HS] <;> iassumption
    iexact H
  · refine WP_conseq ?_ (WP_frame P (leg_gat m ρ K (fits4 m ρ c) h_S256x256 h_S1x256x256 (X4 m ρ c) (pay4_succ m ρ c))) ?_
    · iintro ⟨HS, Hu, H4⟩
      isplitl [HS Hu]; · isplitl [HS] <;> iassumption
      iexact H4
    · rw [e0]
      iintro ⟨⟨HS, HU, HV, HP⟩, H4⟩
      isplitl [HS HV HP]
      · isplitl [HS]; · iexact HS
        isplitl [HP] <;> iassumption
      isplitl [HU] <;> iassumption

/-! ## From whole buffers to whole buffers -/

/-- The eight landing buffers, with whatever they hold. -/
def pads : sProp 𝕄 :=
  iprop((both fun h => iprop(∃ X, owns (c : Thread nD τ) (buf1 h) fullShare X)) ∗ (both fun h => iprop(∃ X, owns (c : Thread nD τ) (buf2 h) fullShare X))
    ∗ (both fun h => iprop(∃ X, owns (c : Thread nD τ) (buf3 h) fullShare X)) ∗ both fun h => iprop(∃ X, owns (c : Thread nD τ) (buf4 h) fullShare X))

theorem pad_of {n R : ℕ} (b : Fin 2 → Memref sig .tc .vmem (SK n R) .f32) :
    (both (F := F) fun h => iprop(∃ X, owns (c : Thread nD τ) (b h) fullShare X))
      = bigSep Finset.univ fun t => both fun h => iprop(∃ Y, owns (c : Thread nD τ) (slot (b h) t) fullShare Y) := by
  rw [both_congr fun h => eqv (slots_of c (b h)).1 (slots_of c (b h)).2, both_big]

theorem pads_free : pads (F := F) c = bigSep Finset.univ fun k => free (F := F) k c := by
  have hh : ∀ {n : ℕ} (Φ : Fin 2 × Fin n → sProp 𝕄), bigSep Finset.univ Φ = bigSep Finset.univ fun t => both fun h => Φ (h, t) := fun Φ => by
    rw [both_big fun h t => Φ (h, t), bigSep_univ_prod, bigSep_fin_two]; rfl
  unfold pads
  rw [pad_of, pad_of, pad_of, pad_of, bigSep_univ_sum, bigSep_univ_sum, bigSep_univ_sum, hh, hh, hh, hh]
  rfl

theorem pads_back : iprop(used1 m ρ c ∗ used2 m ρ c ∗ used3 m ρ c ∗ used4 m ρ c) ⊢ pads (F := F) c := by
  have hu : ∀ {n R : ℕ} (L : Leg (n + 1) R) (In : Fin 2 → Fin (n + 1) → (SB R).Idx → Elt F .f32),
      used c L In ⊢ both fun h => iprop(∃ X, owns (c : Thread nD τ) (L.buf h) fullShare X) := fun L In => by
    rw [pad_of]
    refine big_mono fun t => ?_
    iintro ⟨H, H'⟩
    isplitl [H]; · iexists _; iexact H
    iexists _; iexact H'
  unfold pads
  iintro ⟨U1, U2, U3, U4⟩
  isplitl [U1]; · iapply (hu (leg1 c) _); iexact U1
  isplitl [U2]; · iapply (hu (leg2 c) _); iexact U2
  isplitl [U3]; · iapply (hu (leg3 c) _); iexact U3
  iapply (hu (leg4 c) _); iexact U4

theorem body_spec :
    iprop((Know m ρ K ∗ ∃ W, owes (c : Thread nD τ) (O₀ c) W) ∗ Start (F := F) c ∗ pads (F := F) c ∗ owns (c : Thread nD τ) xM fullShare (xstg m ρ c)
        ∗ ∃ Y, owns (c : Thread nD τ) oM fullShare Y)
      ⊢ WP c (body c) iprop(St m ρ K c 40 40 40 ∗ semVal (barCell c) 0 ∗ pads (F := F) c ∗ owns (c : Thread nD τ) xM fullShare (xstg m ρ c)
        ∗ owns (c : Thread nD τ) oM fullShare (flat (fin m ρ))) := by
  have ex : flat (xG m ρ c) = xstg m ρ c := flat_at2 _
  have hx : (owns (c : Thread nD τ) xM fullShare (xstg m ρ c) : sProp 𝕄)
      ⊣⊢ iprop(owns (c : Thread nD τ) xM fullShare.left (flat (xG m ρ c)) ∗ (both fun h => payS m ρ (c1 h 0) c)
        ∗ bigSep Finset.univ fun t : Fin 7 => both fun h => box c xM fullShare.right (sliceAt h (sl h c t.succ)) (xG m ρ c)) := by
    rw [← ex, both_congr fun h => pay1_zero m ρ c h, ← open8]
    exact owns_halves _ _ _ _
  have e1 : (both fun h => payS m ρ (c1 h 0) c) = both fun h => box c xM fullShare.right (sliceAt h (sl h c 0)) (xG m ρ c) := both_congr fun h => pay1_zero m ρ c h
  have assoc : ∀ (a b d : PP F), (a >>= fun _ => b >>= fun _ => d) = ((a >>= fun _ => b) >>= fun _ => d) := fun a b d => (bind_assoc a _ _).symm
  generalize hR : (bigSep Finset.univ fun t : Fin 7 => both fun h => box c xM fullShare.right (sliceAt h (sl h c t.succ)) (xG m ρ c) : sProp 𝕄) = RX at hx
  generalize hV : (semVal (barCell c) 0 : sProp 𝕄) = V
  unfold body
  refine WP_seq (Q := iprop((St m ρ K c 0 0 0 ∗ V) ∗ owns (c : Thread nD τ) xM fullShare (xstg m ρ c) ∗ ∃ Y, owns (c : Thread nD τ) oM fullShare Y))
    (WP_conseq ?_ (WP_frame iprop(owns (c : Thread nD τ) xM fullShare (xstg m ρ c) ∗ ∃ Y, owns (c : Thread nD τ) oM fullShare Y)
      (entry_spec m ρ K c)) ?_) ?_
  · rw [pads_free]
    iintro ⟨HK, HS, Hp, H⟩
    isplitl [HK HS Hp]
    · isplitl [HK]; · iexact HK
      isplitl [HS] <;> iassumption
    iexact H
  · rw [hV]
  refine WP_seq (WP_conseq ?_ (WP_frame iprop(V ∗ RX ∗ owns (c : Thread nD τ) xM fullShare.left (flat (xG m ρ c)) ∗ ∃ Y, owns (c : Thread nD τ) oM fullShare Y)
    (leg_start m ρ K (fits1 m ρ c))) .rfl) ?_
  · iintro ⟨⟨HS, HV⟩, Hx, HY⟩
    ihave Hx := hx.1 $$ Hx
    icases Hx with ⟨Hl, Hp, Hr⟩
    isplitl [HS Hp]; · isplitl [HS] <;> iassumption
    isplitl [HV]; · iexact HV
    isplitl [Hr]; · iexact Hr
    isplitl [Hl] <;> iassumption
  refine WP_seq (WP_conseq ?_ (WP_frame iprop(St m ρ K c 2 0 0 ∗ V ∗ RX) (copyIn_spec c fullShare.left (flat (xG m ρ c)))) .rfl) ?_
  · iintro ⟨HS, HV, Hr, H⟩
    isplitl [H]; · iexact H
    isplitl [HS]; · iexact HS
    isplitl [HV] <;> iassumption
  refine WP_seq (WP_conseq ?_ (WP_frame iprop(V ∗ RX ∗ owns (c : Thread nD τ) xM fullShare.left (flat (xG m ρ c))) (red1 m ρ K c)) .rfl) ?_
  · iintro ⟨⟨Ho, Hx⟩, HS, HV, Hr⟩
    isplitl [HS Ho]; · isplitl [HS] <;> iassumption
    isplitl [HV]; · iexact HV
    isplitl [Hr] <;> iassumption
  rw [← e1, assoc (start (leg2 c)), assoc (start (leg3 c))]
  refine WP_seq (WP_conseq ?_ (WP_frame iprop(((both fun h => payS m ρ (c1 h 0) c) ∗ used1 m ρ c) ∗ V ∗ RX ∗ owns (c : Thread nD τ) xM fullShare.left (flat (xG m ρ c))) (red2 m ρ K c)) .rfl) ?_
  · iintro ⟨⟨HS, H4, H⟩, H'⟩
    isplitl [HS H4]; · isplitl [HS] <;> iassumption
    isplitl [H] <;> iassumption
  refine WP_seq (WP_conseq ?_ (gat3 m ρ K c iprop(stale4 m ρ c ∗ used2 m ρ c ∗ ((both fun h => payS m ρ (c1 h 0) c) ∗ used1 m ρ c) ∗ V ∗ RX ∗ owns (c : Thread nD τ) xM fullShare.left (flat (xG m ρ c)))) .rfl) ?_
  · iintro ⟨⟨HS, H3, H2, H4⟩, H'⟩
    isplitl [HS]; · iexact HS
    isplitl [H3]; · iexact H3
    isplitl [H4]; · iexact H4
    isplitl [H2] <;> iassumption
  refine WP_conseq ?_ (gat4 m ρ K c iprop(used3 m ρ c ∗ used2 m ρ c ∗ ((both fun h => payS m ρ (c1 h 0) c) ∗ used1 m ρ c) ∗ V ∗ RX ∗ owns (c : Thread nD τ) xM fullShare.left (flat (xG m ρ c)))) ?_
  · iintro ⟨HS, H3, H4, H'⟩
    isplitl [HS]; · iexact HS
    isplitl [H4]; · iexact H4
    isplitl [H3] <;> iassumption
  · iintro ⟨⟨HS, Ho⟩, U4, U3, U2, ⟨Hp, U1⟩, HV, Hr, Hl⟩
    isplitl [HS]; · iexact HS
    isplitl [HV]; · iexact HV
    isplitl [U1 U2 U3 U4]
    · iapply (pads_back m ρ c)
      isplitl [U1]; · iexact U1
      isplitl [U2]; · iexact U2
      isplitl [U3] <;> iassumption
    isplitr [Ho]
    · iapply hx.2
      isplitl [Hl]; · iexact Hl
      isplitl [Hp] <;> iassumption
    iexact Ho

end Cert.AllReduce
-- ==== Proof.Ghost.lean ====
/-
# The protocol at the launch

The launch's element makes every cell's round state, position and tokens; one global step allocates the cells' invariants and deals each
token to the device that pays its duty; what a device owes at launch funds the credits of its neighbours.
-/
module

public import proofs.«01_k».proof.Proof.Entry

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def allCells : Finset (GSem nD τ sig) := Finset.univ.map ⟨kcell, kcell_injective⟩

/-- A device's own cells' duties: four at its entry cell, one at each other. -/
abbrev tokOf (p : Dev nD × (Fin 4 ⊕ (Cp ⊕ Cp))) : GSem nD τ sig × ℕ × Fin 4 := match p.2 with
  | .inl e => (barCell p.1, 0, e)
  | .inr k => (kcell (p.1, .inr k), 0, 0)
theorem tokOf_injective : Function.Injective tokOf := by
  rintro ⟨c, e | k⟩ ⟨c', e' | k'⟩ h
  · have h1 := kcell_injective (congrArg (fun x : GSem nD τ sig × ℕ × Fin 4 => x.1) h)
    have h2 : e = e' := congrArg (fun x : GSem nD τ sig × ℕ × Fin 4 => x.2.2) h
    cases h1; rw [h2]
  · have h1 := kcell_injective (congrArg (fun x : GSem nD τ sig × ℕ × Fin 4 => x.1) h)
    cases h1
  · have h1 := kcell_injective (congrArg (fun x : GSem nD τ sig × ℕ × Fin 4 => x.1) h)
    cases h1
  · have h1 := kcell_injective (congrArg (fun x : GSem nD τ sig × ℕ × Fin 4 => x.1) h)
    cases h1; rfl
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

variable (c : Dev nD)

/-- The tokens of a device's own cells. -/
def ownToks : sProp 𝕄 :=
  iprop((bigSep Finset.univ fun e => dutyTok ER (barCell c) 0 e) ∗ (bigSep Finset.univ fun k => dutyTok ER (sCell c k) 0 0) ∗ bigSep Finset.univ fun k => dutyTok ER (rCell c k) 0 0)
/-- The tokens of the duties a device pays. -/
def payToks : sProp 𝕄 :=
  iprop((bigSep Finset.univ fun e => dutyTok ER (barCell (nbr e c)) 0 (opp e)) ∗ (bigSep Finset.univ fun k => dutyTok ER (sCell c k) 0 0)
    ∗ bigSep Finset.univ fun k => dutyTok ER (rCell (tgt k c) k) 0 0)

abbrev posOf (k : Unit ⊕ (Cp ⊕ Cp)) : sProp 𝕄 := atPos ER (kcell (c, k)) 0 ∅ 0

/-- What the launch's element deals a device. -/
def G : sProp 𝕄 :=
  iprop((bigSep Finset.univ fun k => roundState ER (sch m ρ) (kcell (c, k)) 0)
    ∗ (bigSep Finset.univ fun k => iprop(posOf (F := F) c k ∗ reached ER (kcell (c, k)) 0)) ∗ ownToks (F := F) c)

variable (K : Dev nD × (Unit ⊕ (Cp ⊕ Cp)) → ℕ)

def records : sProp 𝕄 :=
  iprop((bigSep Finset.univ fun p => cellInv ER (sch m ρ) (K p) (kcell p)) ∗ bigSep Finset.univ fun p => reached ER (kcell p) 0)
instance records_persistent : BI.Persistent (records m ρ K) := by unfold records; infer_instance

def linear : sProp 𝕄 := iprop((bigSep Finset.univ fun k => posOf (F := F) c k) ∗ payToks (F := F) c)

/-- What the global step makes of it. -/
def G' : sProp 𝕄 := iprop(∃ K, records m ρ K ∗ linear (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks; rw [bigSep_map, bigSep_univ_prod]
    refine bigSep_congr fun c _ => ?_
    rw [bigSep_univ_sum, bigSep_univ_sum]; rfl
  iintro HX
  imod (Rounds.fund ER (sch m ρ) allCells allToks) $$ HX with ⟨Hst, Hr, Hat, Htok⟩
  imodintro
  ihave Hst := (Entails.of_eq (hX fun g => roundState ER (sch m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells' invariants -/

abbrev ownSems (c : Dev nD) : sProp 𝕄 := Pipeline.ownSems0 (Ix := Unit) (Name := ℕ) (U := UU) (Lvl := ℕ) (Val := Elt F) (τ := τ) osem c

theorem ownSems_eq : ownSems (F := F) c = iprop((bigSep Finset.univ fun k => semVal (sCell c k) 0) ∗ bigSep Finset.univ fun k => semVal (rCell c k) 0) := by
  unfold ownSems Pipeline.ownSems0; rw [bigSep_univ_sum]; rfl
theorem unscopedSems_eq : (unscopedSems0 c : sProp 𝕄) = semVal (barCell c) 0 := by
  unfold unscopedSems0; rw [bigSep_eq_bigSepL_of_eq [SemLoc.reg barS] (by decide +kernel) (by decide)]; rfl

theorem big_one {I : Type} [Fintype I] (Φ : Unit ⊕ I → sProp 𝕄) : bigSep Finset.univ Φ = iprop(Φ (.inl ()) ∗ bigSep Finset.univ fun i => Φ (.inr i)) := by
  rw [bigSep_univ_sum, show (Finset.univ : Finset Unit) = {()} from rfl, bigSep_singleton]; rfl

theorem sems_eq : iprop(ownSems (F := F) c ∗ unscopedSems0 c) ⊢ (bigSep Finset.univ fun k => semVal (kcell (c, k)) 0 : sProp 𝕄) := by
  rw [unscopedSems_eq, ownSems_eq, big_one fun k => semVal (kcell (c, k)) 0,
    show (bigSep Finset.univ fun k => semVal (kcell (c, .inr k)) 0 : sProp 𝕄)
      = iprop((bigSep Finset.univ fun k => semVal (sCell c k) 0) ∗ bigSep Finset.univ fun k => semVal (rCell c k) 0) from bigSep_univ_sum _]
  iintro ⟨⟨HS, HV⟩, HB⟩
  isplitl [HB]; · iexact HB
  isplitl [HS] <;> iassumption

/-- A device's cells with their invariants allocated. -/
abbrev allocated : sProp 𝕄 :=
  iprop((bigSep Finset.univ fun k => iprop(∃ κ : ℕ, cellInv ER (sch m ρ) κ (kcell (c, k))))
    ∗ (bigSep Finset.univ fun k => iprop(posOf (F := F) c k ∗ reached ER (kcell (c, k)) 0)) ∗ ownToks (F := F) c)

theorem core_alloc : iprop(ownSems (F := F) c ∗ unscopedSems0 c ∗ G m ρ c) ⊢ |={Set.univ}=> allocated m ρ c := by
  have h : iprop((bigSep Finset.univ fun k => semVal (kcell (c, k)) 0) ∗ bigSep Finset.univ fun k => roundState ER (sch m ρ) (kcell (c, k)) 0)
      ⊢ (|={Set.univ}=> bigSep Finset.univ fun k => iprop(∃ κ : ℕ, cellInv ER (sch m ρ) κ (kcell (c, k))) : sProp 𝕄) := by
    rw [← bigSep_sep']
    exact (bigSep_mono fun k _ => (Rounds.body_intro ER (sch m ρ) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-- The tokens dealt to the devices that pay the duties. -/
theorem toks_around : (bigSep Finset.univ fun c : Dev nD => ownToks (F := F) c) = bigSep Finset.univ fun c : Dev nD => payToks (F := F) c := by
  have hb : (bigSep Finset.univ fun c : Dev nD => bigSep Finset.univ fun e => dutyTok ER (barCell (nbr e c)) 0 (opp e) : sProp 𝕄)
      = bigSep Finset.univ fun c : Dev nD => bigSep Finset.univ fun e => dutyTok ER (barCell c) 0 e := by
    rw [bigSep_univ_comm, bigSep_univ_comm fun (c : Dev nD) e => (dutyTok ER (barCell c) 0 e : sProp 𝕄),
      bigSep_univ_equiv (Equiv.ofBijective opp ⟨Function.LeftInverse.injective opp_opp, Function.RightInverse.surjective opp_opp⟩)
        fun e => bigSep Finset.univ fun c : Dev nD => (dutyTok ER (barCell c) 0 e : sProp 𝕄)]
    exact bigSep_congr fun e _ => (bigSep_univ_equiv (nbrE e) fun c : Dev nD => (dutyTok ER (barCell c) 0 (opp e) : sProp 𝕄)).symm
  have hr : (bigSep Finset.univ fun c : Dev nD => bigSep Finset.univ fun k => dutyTok ER (rCell (tgt k c) k) 0 0 : sProp 𝕄)
      = bigSep Finset.univ fun c : Dev nD => bigSep Finset.univ fun k => dutyTok ER (rCell c k) 0 0 := by
    rw [bigSep_univ_comm, bigSep_univ_comm fun (c : Dev nD) k => (dutyTok ER (rCell c k) 0 0 : sProp 𝕄)]
    exact bigSep_congr fun k _ => (bigSep_univ_equiv (nbrE (dir k)) fun c : Dev nD => (dutyTok ER (rCell c k) 0 0 : sProp 𝕄)).symm
  unfold ownToks payToks
  rw [bigSep_sep', bigSep_sep', bigSep_sep', bigSep_sep', hb, hr]

theorem each_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup : (bigSep Finset.univ fun c : Dev nD => allocated m ρ c) ⊢ bigSep Finset.univ (G' m ρ) := by
  classical
  unfold allocated
  rw [bigSep_sep', bigSep_sep', toks_around, ← bigSep_univ_prod (fun p : Dev nD × (Unit ⊕ (Cp ⊕ Cp)) => iprop(∃ κ : ℕ, cellInv ER (sch m ρ) κ (kcell p))),
    bigSep_congr (s := Finset.univ) (fun (c : Dev nD) _ => bigSep_sep' Finset.univ (fun k => posOf (F := F) c k) (fun k => reached ER (kcell (c, k)) 0)),
    bigSep_sep', ← bigSep_univ_prod (fun p : Dev nD × (Unit ⊕ (Cp ⊕ Cp)) => (reached ER (kcell p) 0 : sProp 𝕄))]
  iintro ⟨HI, ⟨Hat, #HR⟩, Htok⟩
  ihave HK := (BI.bigSep_exists_pi Finset.univ (fun (p : Dev nD × (Unit ⊕ (Cp ⊕ Cp))) (κ : ℕ) => (cellInv ER (sch m ρ) κ (kcell p) : sProp 𝕄))) $$ HI
  icases HK with ⟨%K, #HI⟩
  have hg : ∀ c : Dev nD, iprop(records m ρ K ∗ linear (F := F) c) ⊢ G' m ρ c := fun c => by unfold G'; iintro H; iexists K; iexact H
  iapply (each_with hg)
  isplitr
  · unfold records; isplitl; · iexact HI
    iexact HR
  · unfold linear; rw [bigSep_sep']
    isplitl [Hat] <;> iassumption

theorem glob : (bigSep Finset.univ fun c => iprop(ownSems (F := F) c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credits -/

open Classical in
theorem tally_here {a b : Dev nD} {k k' : Unit ⊕ (Cp ⊕ Cp)} (n : ℕ) :
    (tallyAt (kcell (a, k)) () n : CellTallies nD τ sig Unit) (kcell (b, k')) () = if a = b ∧ k = k' then n else 0 := by
  rw [tallyAt_apply]
  refine if_congr ⟨fun h => ?_, fun h => ?_⟩ rfl rfl
  · have := kcell_injective h.1; cases this; exact ⟨rfl, rfl⟩
  · rw [h.1, h.2]; exact ⟨rfl, rfl⟩

open Classical in
/-- What `d` owes a cell of `c`, added up. -/
theorem O₀_at (d : Dev nD) (k' : Unit ⊕ (Cp ⊕ Cp)) :
    O₀ d (kcell (c, k')) () = (∑ k : Cp, if tgt k d = c ∧ Sum.inr (Sum.inr k) = k' then Nc k else 0) + ∑ e : Fin 4, if nbr e d = c ∧ Sum.inl () = k' then 1 else 0 := by
  unfold O₀ owed unit
  rw [rng_all, Fin.sum_univ_four]
  simp only [Pi.add_apply, Finsupp.add_apply, Finset.sum_apply, Finsupp.finset_sum_apply, tally_here]
  omega

theorem launch_bar : tallyOn (barCell c) (launchCredit (Pipeline.owing O₀) 0 (barCell c)) = (tallyAt (barCell c) () 4 : CellTallies nD τ sig Unit) := by
  classical
  unfold tallyAt; refine congrArg _ (Finsupp.ext fun u => ?_); cases u
  rw [Pipeline.launchCredit_owing, Finsupp.single_eq_same, Finset.sum_congr rfl fun d _ => O₀_at c d (.inl ())]
  simp only [reduceCtorEq, and_false, if_false, Finset.sum_const_zero, zero_add, and_true]
  rw [Finset.sum_comm, Finset.sum_congr rfl fun e _ => show (∑ d, if nbr e d = c then 1 else 0) = ∑ d, if d = c then 1 else 0 from
    Equiv.sum_comp (nbrE e) fun d => if d = c then 1 else 0]
  simp

theorem launch_r (k : Cp) : tallyOn (rCell c k) (launchCredit (Pipeline.owing O₀) 0 (rCell c k)) = (tallyAt (rCell c k) () (Nc k) : CellTallies nD τ sig Unit) := by
  classical
  unfold tallyAt; refine congrArg _ (Finsupp.ext fun u => ?_); cases u
  rw [Pipeline.launchCredit_owing, Finsupp.single_eq_same, Finset.sum_congr rfl fun d _ => O₀_at c d (.inr (.inr k))]
  simp only [reduceCtorEq, and_false, if_false, Finset.sum_const_zero, add_zero, Sum.inr.injEq]
  rw [Finset.sum_comm]
  refine (Finset.sum_eq_single k (fun k' _ hk => Finset.sum_eq_zero fun d _ => if_neg fun h => hk h.2) (fun h => absurd (Finset.mem_univ k) h)).trans ?_
  simp only [and_true]
  exact (Equiv.sum_comp (nbrE (dir k)) fun d => if d = c then Nc k else 0).trans (by simp)

theorem creds : (Pipeline.launchCred O₀ c : sProp 𝕄) ⊢ iprop(cred (tallyAt (barCell c) () 4) ∗ bigSep Finset.univ fun k => cred (tallyAt (rCell c k) () (Nc k))) := by
  classical
  have hi : Function.Injective fun k : Unit ⊕ Cp => csem (k.map id .inr) := csem_inj.comp (by rintro (_ | k) (_ | k') h <;> first | rfl | (cases h; done) | (cases h; rfl))
  have hs : (Pipeline.launchCred O₀ c : sProp 𝕄) ⊢ bigSep (Finset.univ.map ⟨_, hi⟩) fun sm => cred (tallyOn ((c : Thread nD τ), sm) (launchCredit (Pipeline.owing O₀) 0 ((c : Thread nD τ), sm))) :=
    BI.bigSep_subset (Finset.subset_univ _)
  refine BIBase.Entails.trans hs (Entails.of_eq ?_)
  rw [bigSep_map, big_one]
  exact congrArg₂ _ (congrArg cred (launch_bar c)) (bigSep_congr fun k _ => congrArg cred (launch_r c k))

end Cert.AllReduce
-- ==== Proof.BodyEq.lean ====
/-
# The printed body is the rounds

The kernel's body as printed, window after window of straight-line statements, equals the same program written as its rounds (`body`).
-/
module
public import proofs.«01_k».proof.Proof.Prog
public import proofs.«01_k».proof.Proof.Gen.KernelIdeal.Points
@[expose] public section
noncomputable section
namespace Cert.AllReduce
open Cert.KernelIdeal Cert.KernelIdeal.Gen
open Idealize.ShloMosaic Idealize.ShloMosaic.TcCoe Idealize.SL.Sem
variable {F : FTy → Type} [FloatOps F]
set_option maxRecDepth 100000
set_option maxHeartbeats 4000000
/-- The body at its one grid point: it asks for its device and goes on as `body` there. -/
theorem body_eq (t : Fin cfg0.N) : bodyAt0 (F := F) t = (Prog.lift .deviceId).bind body := by
  rfl
end Cert.AllReduce
-- ==== Proof.Run.lean ====
/-
# The run

The launch: what each device's body starts from and leaves, and every final state of the program.
-/
module

public import proofs.«01_k».proof.Proof.Whole
public import proofs.«01_k».proof.Proof.Ghost
public import proofs.«01_k».proof.Proof.BodyEq
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## What the body starts from and leaves -/

def start₀ : sProp 𝕄 :=
  iprop(G' m ρ c ∗ cred (tallyAt (barCell c) () 4) ∗ (bigSep Finset.univ fun k => cred (tallyAt (rCell c k) () (Nc k))) ∗ levAts L lv)

def Φ₀ : sProp 𝕄 := iprop(start₀ m ρ c ∗ pads (F := F) c)
def Φ₁ : sProp 𝕄 :=
  iprop(semVal (barCell c) 0 ∗ ((bigSep Finset.univ fun k => semVal (sCell c k) 0) ∗ bigSep Finset.univ fun k => semVal (rCell c k) 0) ∗ pads (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => flat (fin m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- The landing buffers are the core's other buffers. -/
theorem pads_rest : pads (F := F) c = (Pipeline.scopedRest (Ix := Unit) (Name := ℕ) (U := UU) (Lvl := ℕ) (Val := Elt F) spec0 c : sProp 𝕄) := by
  rw [scopedRest0_eq]
  unfold pads
  refine eqv ?_ ?_
  · iintro ⟨⟨⟨%X0, H0⟩, ⟨%X1, H1⟩⟩, ⟨⟨%X2, H2⟩, ⟨%X3, H3⟩⟩, ⟨⟨%X4, H4⟩, ⟨%X5, H5⟩⟩, ⟨%X6, H6⟩, ⟨%X7, H7⟩⟩
    isplitl [H0]; · iexists X0; iapply (Entails.of_eq (owns_whole (c : Thread nD τ) cc0_scratch0 fullShare X0)); iexact H0
    isplitl [H1]; · iexists X1; iapply (Entails.of_eq (owns_whole (c : Thread nD τ) cc0_scratch1 fullShare X1)); iexact H1
    isplitl [H2]; · iexists X2; iapply (Entails.of_eq (owns_whole (c : Thread nD τ) cc0_scratch2 fullShare X2)); iexact H2
    isplitl [H3]; · iexists X3; iapply (Entails.of_eq (owns_whole (c : Thread nD τ) cc0_scratch3 fullShare X3)); iexact H3
    isplitl [H4]; · iexists X4; iapply (Entails.of_eq (owns_whole (c : Thread nD τ) cc0_scratch4 fullShare X4)); iexact H4
    isplitl [H5]; · iexists X5; iapply (Entails.of_eq (owns_whole (c : Thread nD τ) cc0_scratch5 fullShare X5)); iexact H5
    isplitl [H6]; · iexists X6; iapply (Entails.of_eq (owns_whole (c : Thread nD τ) cc0_scratch6 fullShare X6)); iexact H6
    iexists X7; iapply (Entails.of_eq (owns_whole (c : Thread nD τ) cc0_scratch7 fullShare X7)); iexact H7
  · iintro ⟨⟨%X0, H0⟩, ⟨%X1, H1⟩, ⟨%X2, H2⟩, ⟨%X3, H3⟩, ⟨%X4, H4⟩, ⟨%X5, H5⟩, ⟨%X6, H6⟩, ⟨%X7, H7⟩⟩
    isplitl [H0 H1]
    · isplitl [H0]; · iexists X0; iapply (Entails.of_eq (owns_whole (c : Thread nD τ) cc0_scratch0 fullShare X0).symm); iexact H0
      iexists X1; iapply (Entails.of_eq (owns_whole (c : Thread nD τ) cc0_scratch1 fullShare X1).symm); iexact H1
    isplitl [H2 H3]
    · isplitl [H2]; · iexists X2; iapply (Entails.of_eq (owns_whole (c : Thread nD τ) cc0_scratch2 fullShare X2).symm); iexact H2
      iexists X3; iapply (Entails.of_eq (owns_whole (c : Thread nD τ) cc0_scratch3 fullShare X3).symm); iexact H3
    isplitl [H4 H5]
    · isplitl [H4]; · iexists X4; iapply (Entails.of_eq (owns_whole (c : Thread nD τ) cc0_scratch4 fullShare X4).symm); iexact H4
      iexists X5; iapply (Entails.of_eq (owns_whole (c : Thread nD τ) cc0_scratch5 fullShare X5).symm); iexact H5
    isplitl [H6]; · iexists X6; iapply (Entails.of_eq (owns_whole (c : Thread nD τ) cc0_scratch6 fullShare X6).symm); iexact H6
    iexists X7; iapply (Entails.of_eq (owns_whole (c : Thread nD τ) cc0_scratch7 fullShare X7).symm); iexact H7

/-! ## The body's obligation -/

theorem body_end (K : Dev nD × (Unit ⊕ (Cp ⊕ Cp)) → ℕ) : iprop(St m ρ K c 40 40 40 ∗ semVal (barCell c) 0 ∗ pads (F := F) c ∗ owns (c : Thread nD τ) xM fullShare (xstg m ρ c)
        ∗ owns (c : Thread nD τ) oM fullShare (flat (fin m ρ)))
      ⊢ iprop(Φ₁ (F := F) c ∗ (dats m ρ 0 c).owesAt () t0_0.succ ∗ owns (c : Thread nD τ) xM fullShare (xstg m ρ c)
        ∗ owns (c : Thread nD τ) oM fullShare (flat (fin m ρ))) := by
  unfold St Φ₁ Dat.owesAt Pipeline.owesWithin
  rw [owed_end, rng_all, show (dats m ρ 0 c).owed t0_0.succ = 0 from rfl]
  iintro ⟨⟨-, ⟨%W', HO⟩, -, -, HvR, -, -, HvS⟩, HvB, Hp, Hx, Ho⟩
  isplitl [HvB HvR HvS Hp]
  · isplitl [HvB]; · iexact HvB
    isplitl [HvR HvS]; · isplitl [HvS] <;> iassumption
    iexact Hp
  isplitl [HO]
  · iexists W'; isplitr; · ipureintro; exact fun _ _ => Or.inl trivial
    iexact HO
  isplitl [Hx] <;> iassumption

/-- What the body's run takes, at some names. -/
abbrev before_body (K : Dev nD × (Unit ⊕ (Cp ⊕ Cp)) → ℕ) : sProp 𝕄 :=
  iprop((Know m ρ K ∗ ∃ W, owes (c : Thread nD τ) (O₀ c) W) ∗ Start (F := F) c ∗ pads (F := F) c ∗ owns (c : Thread nD τ) xM fullShare (xstg m ρ c)
    ∗ ∃ Y, owns (c : Thread nD τ) oM fullShare Y)

theorem sound_run :
    iprop(Φ₀ m ρ c ∗ (dats m ρ 0 c).owesAt () t0_0.castSucc
        ∗ (∃ d, owns (c : Thread nD τ) xM fullShare ((dats m ρ 0 c).before (0 : Fin 2) t0_0 d))
        ∗ (∃ d, owns (c : Thread nD τ) oM fullShare ((dats m ρ 0 c).before (1 : Fin 2) t0_0 d)))
      ⊢ WP c (body c) iprop(Φ₁ (F := F) c ∗ (dats m ρ 0 c).owesAt () t0_0.succ ∗ owns (c : Thread nD τ) xM fullShare (xstg m ρ c) ∗ owns (c : Thread nD τ) oM fullShare (flat (fin m ρ))) := by
  refine BIBase.Entails.trans ?_ (exists_elim (Φ := fun K => before_body m ρ c K) fun K => WP_conseq .rfl (body_spec m ρ K c) (body_end m ρ c K))
  unfold before_body
  unfold Φ₀ start₀ G' linear payToks Dat.owesAt Pipeline.owesWithin
  rw [show (dats m ρ 0 c).owed t0_0.castSucc = O₀ c from rfl]
  iintro ⟨⟨⟨⟨%K, #HR, Hat, Ht⟩, HcB, HcR, #HL⟩, Hpad⟩, ⟨%W, %hW, HO⟩, ⟨%d0, Hx⟩, ⟨%d1, Ho⟩⟩
  have hx : (dats m ρ 0 c).before (0 : Fin 2) t0_0 d0 = xstg m ρ c := by unfold Dat.before; rw [if_pos (fetch0_0 t0_0)]; rfl
  have hpos : (bigSep Finset.univ fun k => posOf (F := F) c k)
      ⊢ iprop(atPos ER (barCell c) 0 ∅ 0 ∗ (bigSep Finset.univ fun k => atPos ER (sCell c k) 0 ∅ 0) ∗ bigSep Finset.univ fun k => atPos ER (rCell c k) 0 ∅ 0) := by
    rw [big_one, show (bigSep Finset.univ fun k => posOf (F := F) c (.inr k))
      = iprop((bigSep Finset.univ fun k => atPos ER (sCell c k) 0 ∅ 0) ∗ bigSep Finset.univ fun k => atPos ER (rCell c k) 0 ∅ 0) from bigSep_univ_sum _]
  ihave Hat := hpos $$ Hat
  icases Hat with ⟨HaB, HaS, HaR⟩
  icases Ht with ⟨T1, T2, T3⟩
  iexists K
  isplitl [HO]
  · isplitr
    · unfold records Know
      icases HR with ⟨#H1, #H2⟩
      isplitr; · iexact H1
      isplitr; · iexact H2
      iexact HL
    iexists W; iexact HO
  isplitl [HcB HaB HaS HaR T1 T2 T3 HcR]
  · unfold Start toRecv
    rw [bigSep_sep']
    isplitl [T1]; · iexact T1
    isplitl [HcB HaB]; · isplitl [HcB] <;> iassumption
    isplitl [T2]; · iexact T2
    isplitl [T3]; · iexact T3
    isplitl [HaR HcR]; · isplitl [HaR] <;> iassumption
    iexact HaS
  isplitl [Hpad]; · iexact Hpad
  isplitl [Hx]; · rw [← hx]; iexact Hx
  iexists _; iexact Ho

set_option maxRecDepth 100000 in
theorem sound_body :
    iprop(Φ₀ m ρ c ∗ (dats m ρ 0 c).owesAt () t0_0.castSucc
        ∗ (∃ d, owns (c : Thread nD τ) xM fullShare ((dats m ρ 0 c).before (0 : Fin 2) t0_0 d))
        ∗ (∃ d, owns (c : Thread nD τ) oM fullShare ((dats m ρ 0 c).before (1 : Fin 2) t0_0 d)))
      ⊢ wp frame (wpE (defs₀ (F := F)) 𝒱₀ (c : Thread nD τ) none) Set.univ (bodyAt0 (F := F) t0_0) fun _ =>
          iprop(Φ₁ (F := F) c ∗ (dats m ρ 0 c).owesAt () t0_0.succ ∗ owns (c : Thread nD τ) xM fullShare (xstg m ρ c) ∗ owns (c : Thread nD τ) oM fullShare (flat (fin m ρ))) := by
  have hb : bodyAt0 (F := F) t0_0 = .op .deviceId body := (body_eq t0_0).trans rfl
  rw [hb, wp_deviceId]
  exact @sound_run F _ m ρ c

set_option maxRecDepth 100000 in
theorem body_obligation : BodyObligation (dats (F := F) m ρ 0 c) (defs₀ (F := F)) 𝒱₀ () Set.univ := fun t => by
  rw [fin_N0 t, bigSep_W0, bigSep_W0]
  exact sound_body m ρ c

/-! ## The launch's side conditions -/

theorem ownSemFacts : Pipeline.OwnSemFacts cfg0.spec osem :=
  ⟨by decide +kernel, fun k k' h => Sum.inr.inj (csem_inj (a₁ := .inr k) (a₂ := .inr k') (by rcases k with k | k <;> rcases k' with k' | k' <;> exact h)), by decide +kernel⟩

theorem stage_ne (w : Fin cfg0.W) (s) : ∀ k, csem k ≠ .dma ((cfg0.spec w).sem s)
  | .inl _ => fun h => by cases h
  | .inr (.inl k) => ownSemFacts.3 (.inl k) w s
  | .inr (.inr k) => ownSemFacts.3 (.inr k) w s

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start₀ m ρ c ∗ emp) := by
  iintro ⟨-, Hlev, Hcr, -, HG⟩
  ihave Hc := (creds (F := F) c) $$ Hcr
  icases Hc with ⟨HB, HR⟩
  imodintro
  unfold start₀
  isplitl
  · isplitl [HG]; · iexact HG
    isplitl [HB]; · iexact HB
    isplitl [HR]; · iexact HR
    iexact Hlev
  · iempintro

theorem phi0_intro :
    iprop(start₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← pads_rest]
  unfold Φ₀
  iintro ⟨Hs, -, Hr⟩
  isplitl [Hs] <;> iassumption

theorem phi1_exit :
    (dats m ρ 0 c).Φ (Fin.last cfg0.N) ⊢ iprop(unscopedSems0 c ∗ ownSems (F := F) c ∗ Pipeline.scopedRest cfg0.spec c) := by
  rw [show (dats m ρ 0 c).Φ (Fin.last cfg0.N) = Φ₁ (F := F) c from rfl, ← pads_rest, ownSems_eq, unscopedSems_eq]
  exact .rfl

theorem waits : (levAts L lv : sProp 𝕄) ⊢ Pipeline.cellsWaits cfgs (dats m ρ) () 0 c :=
  Pipeline.cellsWaits_intro cfgs (dats m ρ) () 0 c fun w s t =>
    mayWait_stage c _ (stage_ne w s) _ (by
      rcases t with ⟨_ | _, ht⟩
      · exact Or.inl rfl
      · exact Or.inr rfl)

/-! ## Every run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair run ends, each device's result array at the total, its argument as it was and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start₀ m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce
-- ==== Proof.Value.lean ====
/-
# The values

Every device's result, read over the reals: the sum of the thirty-two blocks. First what the arrays hold after a run, for any float values; then the
partial sums on the two rings, exact, as sums over the devices whose blocks they have met; last the reference's reduction at an index.
-/
module

public import proofs.«01_k».proof.Proof.Run
public import proofs.«01_k».proof.Proof.Gen.ReferenceIdeal.Run
public import Idealize.ShloMosaic.Lib.Pipeline.ValueKit
public import Idealize.ShloMosaic.Lib.Pointwise
public import Idealize.ShloMosaic.Lib.Layout

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

theorem xstg_eq (c : Dev nD) : xstg m ρ c = m ((c : Thread nD τ).loc main_arg0) := by
  funext i
  show (s₀ m ρ).mem ((c : Thread nD τ).loc main_arg0) _ = m ((c : Thread nD τ).loc main_arg0) i
  refine congrArg (m ((c : Thread nD τ).loc main_arg0)) (funext fun a => Fin.ext ?_)
  exact (Window.rect_emb_val_of_index_zero win0_0 (0 : Fin 1) a rfl i)

theorem finalA_arg (c : Dev nD) : finalA m ρ c (0 : Fin 2) = m ((c : Thread nD τ).loc main_arg0) :=
  (dats m ρ 0 c).arrAt_in (0 : Fin 2) rfl _

/-- Every device's result array holds the total. -/
theorem finalA_out (c : Dev nD) : finalA m ρ c (1 : Fin 2) = flat (fin m ρ) := by
  refine (dats m ρ 0 c).arrAt_eq_of_covers (1 : Fin 2) _ (by decide +kernel) fun t _ y => ?_
  show flat (fin m ρ) _ = flat (fin m ρ) _
  refine congrArg (flat (fin m ρ)) (funext fun a => Fin.ext ?_)
  exact (Window.rect_emb_val_of_index_zero (cfg0.win 1) t a rfl y).symm

/-- The run, at the two arrays a caller sees. -/
theorem run_arrays : θ_run defs (onTc (τ := τ) (main (F := F))) ⟨m, fun _ => 0, ρ⟩ (fun r =>
    (∀ c : Dev nD, r.2.mem ((c : Thread nD τ).loc main_v1) = flat (fin m ρ)
      ∧ r.2.mem ((c : Thread nD τ).loc main_arg0) = m ((c : Thread nD τ).loc main_arg0)) ∧ r.2.sem = fun _ => 0) :=
  (θ_run defs _ _).mono (fun _ h => ⟨fun c => ⟨(h.1 c 1).trans (finalA_out m ρ c), (h.1 c 0).trans (finalA_arg m ρ c)⟩, h.2⟩) (run_main m ρ)

/-! ## The partial sums, exact -/

/-- What has come `n` steps along a ring, each device on the way adding its own term. -/
theorem ring_sum {α M : Type} [AddCommMonoid M] (g : α → α) (f : α → M) (S : ℕ → α → M) (h0 : ∀ a, S 0 a = f a)
    (hs : ∀ n a, S (n + 1) a = f a + S n (g a)) (n : ℕ) (a : α) : S n a = ∑ i : Fin (n + 1), f (g^[i.val] a) := by
  induction n generalizing a with
  | zero => simp [h0]
  | succ n ih => rw [hs, ih, Fin.sum_univ_succ (n := n + 1)]; simp [Function.iterate_succ_apply]

/-- Three steps back through the planes and seven back along the snake meet every device once. -/
def met (h : Fin 2) (c : Dev nD) (p : Fin 4 × Fin 8) : Dev nD := (nbr (opp (dir1 h)))^[p.2.val] ((nbr (opp (dir2 h)))^[p.1.val] c)

theorem met_inj : ∀ h c, Function.Injective (met h c) := by decide +kernel

theorem met_bij (h : Fin 2) (c : Dev nD) : Function.Bijective (met h c) :=
  (Fintype.bijective_iff_injective_and_card _).mpr ⟨met_inj h c, by decide⟩

variable (m' : (ℓ : Loc nD τ sig) → Buf (Elt Ideal) ℓ)

/-- At any device and either way round, the two rings end with the sum over all devices. -/
theorem P2_total (h : Fin 2) (c : Dev nD) (r k : ℕ) :
    (P2 m' ρ h 3 c r k : EReal) = ∑ d : Dev nD, (xG m' ρ d r k : EReal) := by
  rw [ring_sum (M := EReal) (nbr (opp (dir2 h))) (fun a => P1 m' ρ h 7 a r k) (fun n a => P2 m' ρ h n a r k) (fun _ => rfl) (fun _ _ => rfl) 3 c]
  simp_rw [fun a => ring_sum (M := EReal) (nbr (opp (dir1 h))) (fun a => xG m' ρ a r k) (fun n a => P1 m' ρ h n a r k) (fun _ => rfl) (fun _ _ => rfl) 7 a]
  rw [← Fintype.sum_prod_type' (fun (s : Fin 4) (t : Fin 8) => (xG m' ρ ((nbr (opp (dir1 h)))^[t.val] ((nbr (opp (dir2 h)))^[s.val] c)) r k : EReal))]
  exact (met_bij h c).sum_comp fun d => (xG m' ρ d r k : EReal)

/-- Device `d`'s argument, as reals. -/
abbrev argOf (d : Dev nD) : S2048x512.Idx → EReal := m' ((d : Thread nD τ).loc main_arg0)

/-- So the result is the blocks' sum, element by element. -/
theorem total_apply (i : S2048x512.Idx) : (flat (fin m' ρ) i : EReal) = ∑ d : Dev nD, argOf m' d i := by
  refine (P2_total ρ m' _ _ _ _).trans (Finset.sum_congr rfl fun d _ => ?_)
  show xstg m' ρ d (at2 (i 0).val (i 1).val) = _
  rw [xstg_eq]
  refine congrArg (m' ((d : Thread nD τ).loc main_arg0)) (funext fun a => Fin.ext ?_)
  fin_cases a
  · exact Nat.mod_eq_of_lt (i 0).isLt
  · exact Nat.mod_eq_of_lt (i 1).isLt

/-! ## The reference -/

/-- The reference's reduction of the whole array, at an index: the sum of its thirty-two blocks there. -/
theorem ref_apply (x : (⟨2, ![65536, 512]⟩ : Shape).Idx → EReal) (i : S2048x512.Idx) :
    (Host.reduceAdd (F := Ideal) (φ := .f32) (shapeCast Cert.ReferenceIdeal.S32x2048x512 x Cert.ReferenceIdeal.Gen.facts.shapeCasts_S65536x512_S32x2048x512)
      (constant Cert.ReferenceIdeal.S_ .f32 0x00000000#32) Cert.ReferenceIdeal.Gen.facts.reducesTo_S32x2048x512_S2048x512_d0
        Cert.ReferenceIdeal.Gen.facts.h_S_ i : EReal)
      = ∑ d : Fin 32, Layout.block ⟨2, ![2048, 512]⟩ ⟨2, ![65536, 512]⟩ 0 32 d x (by decide) i := by
  rw [Host.reduceAdd_apply, Ideal.hostReduceAdd_def, Ideal.hostReduceAdd_r3_a0]
  rw [show (constant (F := Ideal) Cert.ReferenceIdeal.S_ .f32 0x00000000#32 _ : EReal) = 0 from Ideal.ofBits_zero_f32, zero_add]
  refine Finset.sum_congr rfl fun d _ => ?_
  rw [Layout.block_apply, Pointwise.shapeCast_apply]
  refine congrArg x (Shape.reshapeEquiv_eq_of_vals _ _ _ _ _ (Shape.rowMajor_val_two _) (Shape.rowMajor_val_three _) ?_)
  rfl

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two programs' one kernel body is the same text, at any float values; -/
theorem bodies_eq (F : FTy → Type) [FloatOps F] : @Cert.Kernel.defs₀ F _ _ = @Cert.KernelIdeal.defs₀ F _ _ := by
  unfold Cert.Kernel.defs₀ Cert.KernelIdeal.defs₀
  congr 1
  funext l x
  rcases l with ⟨_ | n, h⟩
  · rcases x with ⟨t, s⟩
    rfl
  · omega

/-- so is what @main calls. -/
theorem defs_eq (F : FTy → Type) [FloatOps F] : @Cert.Kernel.defs F _ _ = @Cert.KernelIdeal.defs F _ _ :=
  congrArg (Pipeline.defs Cert.KernelIdeal.pcfgs) (bodies_eq F)

/-- The kernel as it stands, every float a bit pattern: the same run. -/
theorem frame_kernel : Cert.quiescent_Kernel := fun m ρ _ => by
  rw [defs_eq]
  exact (θ_run Cert.KernelIdeal.defs (onTc Cert.KernelIdeal.main) ⟨m, fun _ => 0, ρ⟩).mono (fun _ h => ⟨fun c => (h.1 c).2, h.2⟩)
    (Cert.AllReduce.run_arrays (F := Bits) m ρ)

/-- The kernel over the reals. -/
theorem frame_ideal : Cert.quiescent_KernelIdeal := fun m ρ _ =>
  (θ_run Cert.KernelIdeal.defs _ _).mono (fun _ h => ⟨fun c => (h.1 c).2, h.2⟩) (Cert.AllReduce.run_arrays (F := Ideal) m ρ)

/-- The reference over the reals; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal inputs, every device's result is the reference's, exactly. -/
theorem algebraic : Cert.algebraic_KernelIdeal_ReferenceIdeal := fun m ρ m' ρ' _ hm =>
  ⟨Cert.AllReduce.flat (Cert.AllReduce.fin m ρ),
    (θ_run Cert.KernelIdeal.defs _ _).mono (fun _ h c => h.1 c) (Cert.AllReduce.run_arrays (F := Ideal) m ρ),
    (θ_run Cert.ReferenceIdeal.defs _ _).mono (fun _ h => ⟨(h 0).1.trans (funext fun i =>
      (Cert.AllReduce.ref_apply _ i).trans (((Cert.AllReduce.total_apply ρ m i).trans
        (Finset.sum_congr rfl fun d _ => congrFun (hm d) i)).symm)), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
